-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S16x1x128x2048 : Shape := ⟨4, ![16, 1, 128, 2048]⟩
abbrev S128 : Shape := ⟨1, ![128]⟩
abbrev S_ : Shape := ⟨0, ![]⟩

class Facts : Prop where
  bcast_S_S16x1x128x2048 : S_.BroadcastsInDim S16x1x128x2048 (![] : Fin 0 → Fin S16x1x128x2048.rank)

variable [Facts]

def fn {F : FTy → Type} [FloatOps F] (main_arg0 : FVec F S16x1x128x2048 .f32) (main_arg1 : FVec F S128 .f32) (main_arg2 : FVec F S128 .f32) (main_arg3 : FVec F S128 .f32) : IVec S16x1x128x2048 1 :=
  let main_cst : FVec F S_ .f32 := constant S_ .f32 0x00000000#32
  let main_v0 : FVec F S16x1x128x2048 .f32 := broadcastInDim S16x1x128x2048 ![] bcast_S_S16x1x128x2048 main_cst
  let main_v1 : IVec S16x1x128x2048 1 := cmpf .oge main_arg0 main_v0
  main_v1
-- ==== Kernel.lean ====
abbrev S16x1x128x2048 : Shape := ⟨4, ![16, 1, 128, 2048]⟩
abbrev S128 : Shape := ⟨1, ![128]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128x512 : Shape := ⟨2, ![128, 512]⟩
abbrev S7x512 : Shape := ⟨2, ![7, 512]⟩
abbrev S1032x512 : Shape := ⟨2, ![1032, 512]⟩
abbrev S512x1032 : Shape := ⟨2, ![512, 1032]⟩
abbrev S1x512x1x1 : Shape := ⟨4, ![1, 512, 1, 1]⟩
abbrev S1x512x128x1 : Shape := ⟨4, ![1, 512, 128, 1]⟩
abbrev S512x128 : Shape := ⟨2, ![512, 128]⟩
abbrev S1x128 : Shape := ⟨2, ![1, 128]⟩
abbrev S16x1x2048x128 : Shape := ⟨4, ![16, 1, 2048, 128]⟩
abbrev S16x1x128x512 : Shape := ⟨4, ![16, 1, 128, 512]⟩
abbrev S16x1x512x128 : Shape := ⟨4, ![16, 1, 512, 128]⟩
abbrev S1x2048 : Shape := ⟨2, ![1, 2048]⟩
abbrev S2048x512 : Shape := ⟨2, ![2048, 512]⟩
abbrev S512x256 : Shape := ⟨2, ![512, 256]⟩
abbrev S256x2048 : Shape := ⟨2, ![256, 2048]⟩
abbrev S1x1 : Shape := ⟨2, ![1, 1]⟩
abbrev S128x128 : Shape := ⟨2, ![128, 128]⟩
abbrev S1x1x128x128 : Shape := ⟨4, ![1, 1, 128, 128]⟩

abbrev nBuf : Space → Nat
  | .hbm => 71
  | .vmem => 10
  | .smem => 0
  | _ => 0

abbrev bufTy : (tb : Table) → Fin (tcTables nBuf tb) → BufTy
  | .hbm, ⟨0, _⟩ => ⟨S16x1x128x2048, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S512, .i32⟩
  | .hbm, ⟨11, _⟩ => ⟨S512x1, .i32⟩
  | .hbm, ⟨12, _⟩ => ⟨S1x512, .i32⟩
  | .hbm, ⟨13, _⟩ => ⟨S512x512, .i32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i1⟩
  | .hbm, ⟨19, _⟩ => ⟨S_, .f32⟩
  | .hbm, ⟨20, _⟩ => ⟨S_, .f32⟩
  | .hbm, ⟨21, _⟩ => ⟨S_, .i32⟩
  | .hbm, ⟨22, _⟩ => ⟨S512x512, .i32⟩
  | .hbm, ⟨23, _⟩ => ⟨S512x512, .i32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x512, .f32⟩
  | .hbm, ⟨29, _⟩ => ⟨S_, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S_, .i32⟩
  | .hbm, ⟨34, _⟩ => ⟨S512x512, .i32⟩
  | .hbm, ⟨35, _⟩ => ⟨S512x512, .i1⟩
  | .hbm, ⟨36, _⟩ => ⟨S_, .f32⟩
  | .hbm, ⟨37, _⟩ => ⟨S_, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S128x512, .f32⟩
  | .hbm, ⟨42, _⟩ => ⟨S128x512, .f32⟩
  | .hbm, ⟨43, _⟩ => ⟨S128x512, .f32⟩
  | .hbm, ⟨44, _⟩ => ⟨S128x512, .f32⟩
  | .hbm, ⟨45, _⟩ => ⟨S128x512, .f32⟩
  | .hbm, ⟨46, _⟩ => ⟨S128x512, .f32⟩
  | .hbm, ⟨47, _⟩ => ⟨S128x512, .f32⟩
  | .hbm, ⟨48, _⟩ => ⟨S128x512, .f32⟩
  | .hbm, ⟨49, _⟩ => ⟨S1x512, .f32⟩
  | .hbm, ⟨50, _⟩ => ⟨S_, .f32⟩
  | .hbm, ⟨51, _⟩ => ⟨S7x512, .f32⟩
  | .hbm, ⟨52, _⟩ => ⟨S1032x512, .f32⟩
  | .hbm, ⟨53, _⟩ => ⟨S512x1032, .f32⟩
  | .hbm, ⟨54, _⟩ => ⟨S_, .f32⟩
  | .hbm, ⟨55, _⟩ => ⟨S_, .f32⟩
  | .hbm, ⟨56, _⟩ => ⟨S_, .i32⟩
  | .hbm, ⟨57, _⟩ => ⟨S512, .i32⟩
  | .hbm, ⟨58, _⟩ => ⟨S512, .i32⟩
  | .hbm, ⟨59, _⟩ => ⟨S512, .f32⟩
  | .hbm, ⟨60, _⟩ => ⟨S512, .f32⟩
  | .hbm, ⟨61, _⟩ => ⟨S512, .f32⟩
  | .hbm, ⟨62, _⟩ => ⟨S512x1, .f32⟩
  | .hbm, ⟨63, _⟩ => ⟨S1x512x1x1, .f32⟩
  | .hbm, ⟨64, _⟩ => ⟨S1x512x128x1, .f32⟩
  | .hbm, ⟨65, _⟩ => ⟨S512x128, .f32⟩
  | .hbm, ⟨66, _⟩ => ⟨S512x1032, .bf16⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S16x1x2048x128, .f32⟩
  | .local _ .vmem, ⟨0, _⟩ => ⟨S16x1x128x512, .f32⟩
  | .local _ .vmem, ⟨1, _⟩ => ⟨S16x1x128x512, .f32⟩
  | .local _ .vmem, ⟨2, _⟩ => ⟨S512x1032, .bf16⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S16x1x512x128, .f32⟩
  | .local _ .vmem, ⟨8, _⟩ => ⟨S16x1x512x128, .f32⟩
  | .local _ .vmem, ⟨9, _⟩ => ⟨S1x2048, .f32⟩
  | _, _ => ⟨S16x1x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S16x1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1032 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S16x1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S16x1x128x2048 : Shape := ⟨4, ![16, 1, 128, 2048]⟩
abbrev S128 : Shape := ⟨1, ![128]⟩
abbrev S_ : Shape := ⟨0, ![]⟩
abbrev S128x1 : Shape := ⟨2, ![128, 1]⟩
abbrev S2049 : Shape := ⟨1, ![2049]⟩
abbrev S1x2049 : Shape := ⟨2, ![1, 2049]⟩
abbrev S2048x2049 : Shape := ⟨2, ![2048, 2049]⟩
abbrev S4196352 : Shape := ⟨1, ![4196352]⟩
abbrev S2049x2048 : Shape := ⟨2, ![2049, 2048]⟩
abbrev S2048x2048 : Shape := ⟨2, ![2048, 2048]⟩
abbrev S16x1x128x1 : Shape := ⟨4, ![16, 1, 128, 1]⟩
abbrev S16x1x128 : Shape := ⟨3, ![16, 1, 128]⟩
abbrev S1x2048 : Shape := ⟨2, ![1, 2048]⟩
abbrev S2048 : Shape := ⟨1, ![2048]⟩
abbrev S1x1x128x1 : Shape := ⟨4, ![1, 1, 128, 1]⟩
abbrev S16x1x2048x128 : Shape := ⟨4, ![16, 1, 2048, 128]⟩

abbrev nBuf : Space → Nat
  | .hbm => 79
  | .vmem => 0
  | .smem => 0
  | _ => 0

abbrev bufTy : (tb : Table) → Fin (tcTables nBuf tb) → BufTy
  | .hbm, ⟨0, _⟩ => ⟨S16x1x128x2048, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S128, .f32⟩
  | .hbm, ⟨13, _⟩ => ⟨S128x1, .f32⟩
  | .hbm, ⟨14, _⟩ => ⟨S128, .f32⟩
  | .hbm, ⟨15, _⟩ => ⟨S128x1, .f32⟩
  | .hbm, ⟨16, _⟩ => ⟨S_, .f32⟩
  | .hbm, ⟨17, _⟩ => ⟨S_, .f32⟩
  | .hbm, ⟨18, _⟩ => ⟨S2049, .f32⟩
  | .hbm, ⟨19, _⟩ => ⟨S_, .f32⟩
  | .hbm, ⟨20, _⟩ => ⟨S2049, .f32⟩
  | .hbm, ⟨21, _⟩ => ⟨S2049, .f32⟩
  | .hbm, ⟨22, _⟩ => ⟨S1x2049, .f32⟩
  | .hbm, ⟨23, _⟩ => ⟨S2048x2049, .f32⟩
  | .hbm, ⟨24, _⟩ => ⟨S4196352, .f32⟩
  | .hbm, ⟨25, _⟩ => ⟨S2049x2048, .f32⟩
  | .hbm, ⟨26, _⟩ => ⟨S2048x2048, .f32⟩
  | .hbm, ⟨27, _⟩ => ⟨S2048x2048, .i32⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S2048x2048, .i1⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S16x1x128x2048, .f32⟩
  | .hbm, ⟨37, _⟩ => ⟨S_, .f32⟩
  | .hbm, ⟨38, _⟩ => ⟨S16x1x128x2048, .f32⟩
  | .hbm, ⟨39, _⟩ => ⟨S16x1x128x2048, .f32⟩
  | .hbm, ⟨40, _⟩ => ⟨S_, .f32⟩
  | .hbm, ⟨41, _⟩ => ⟨S_, .f32⟩
  | .hbm, ⟨42, _⟩ => ⟨S16x1x128x1, .f32⟩
  | .hbm, ⟨43, _⟩ => ⟨S16x1x128, .f32⟩
  | .hbm, ⟨44, _⟩ => ⟨S16x1x128x1, .f32⟩
  | .hbm, ⟨45, _⟩ => ⟨S_, .f32⟩
  | .hbm, ⟨46, _⟩ => ⟨S16x1x128x1, .f32⟩
  | .hbm, ⟨47, _⟩ => ⟨S16x1x128x1, .f32⟩
  | .hbm, ⟨48, _⟩ => ⟨S1x2048, .f32⟩
  | .hbm, ⟨49, _⟩ => ⟨S2048, .f32⟩
  | .hbm, ⟨50, _⟩ => ⟨S1x2048, .f32⟩
  | .hbm, ⟨51, _⟩ => ⟨S16x1x128x2048, .f32⟩
  | .hbm, ⟨52, _⟩ => ⟨S16x1x128x2048, .f32⟩
  | .hbm, ⟨53, _⟩ => ⟨S128x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S16x1x128x2048, .f32⟩
  | .hbm, ⟨58, _⟩ => ⟨S16x1x128x2048, .f32⟩
  | .hbm, ⟨59, _⟩ => ⟨S16x1x128x2048, .f32⟩
  | .hbm, ⟨60, _⟩ => ⟨S_, .f32⟩
  | .hbm, ⟨61, _⟩ => ⟨S16x1x128x2048, .f32⟩
  | .hbm, ⟨62, _⟩ => ⟨S16x1x128x2048, .f32⟩
  | .hbm, ⟨63, _⟩ => ⟨S1x1x128x1, .f32⟩
  | .hbm, ⟨64, _⟩ => ⟨S16x1x128x2048, .f32⟩
  | .hbm, ⟨65, _⟩ => ⟨S16x1x128x2048, .f32⟩
  | .hbm, ⟨66, _⟩ => ⟨S16x1x128x2048, .f32⟩
  | .hbm, ⟨67, _⟩ => ⟨S16x1x128x2048, .f32⟩
  | .hbm, ⟨68, _⟩ => ⟨S1x1x128x1, .f32⟩
  | .hbm, ⟨69, _⟩ => ⟨S16x1x128x2048, .f32⟩
  | .hbm, ⟨70, _⟩ => ⟨S16x1x128x2048, .f32⟩
  | .hbm, ⟨71, _⟩ => ⟨S1x1x128x1, .f32⟩
  | .hbm, ⟨72, _⟩ => ⟨S16x1x128x2048, .f32⟩
  | .hbm, ⟨73, _⟩ => ⟨S16x1x128x2048, .f32⟩
  | .hbm, ⟨74, _⟩ => ⟨S128x1, .f32⟩
  | .hbm, ⟨75, _⟩ => ⟨S1x1x128x1, .f32⟩
  | .hbm, ⟨76, _⟩ => ⟨S16x1x128x2048, .f32⟩
  | .hbm, ⟨77, _⟩ => ⟨S16x1x128x2048, .f32⟩
  | .hbm, ⟨78, _⟩ => ⟨S16x1x2048x128, .f32⟩
  | _, _ => ⟨S16x1x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Proof.Tile.lean ====
/- The sixty-four tiles one grid point stores are sixty-four cases of one function of the slab number and the batch number. -/
module

public import proofs.«01_k».proof.Proof.Gen.KernelIdeal.Value

@[expose] public section

set_option maxRecDepth 16384

noncomputable section

namespace Cert.KernelIdeal.Hand

open Cert.KernelIdeal Cert.KernelIdeal.Gen Idealize.ShloMosaic

variable {F : FTy → Type} [FloatOps F] [Named F]

/-- Columns `256 i …` of the weight table lie inside it. -/
theorem slab_inb (i : Fin 4) : ∀ a, (![0, 256 * i.val] : Fin 2 → ℕ) a + S512x256.size a ≤ S512x1032.size a := by
  revert i; decide

/-- Rows `128 i …` of the decay table lie inside it. -/
theorem decay_inb (i : Fin 4) : ∀ a, (![128 * i.val, 0] : Fin 2 → ℕ) a + S128x128.size a ≤ S512x128.size a := by
  revert i; decide

/-- The output tile of slab `i` and batch `b` lies inside the output block. -/
theorem tile_inb (i : Fin 4) (b : Fin 16) :
    ∀ a, (![b.val, 0, 128 * i.val, 0] : Fin 4 → ℕ) a + (![1, 1, 128, 128] : Fin 4 → ℕ) a ≤ S16x1x512x128.size a := by
  revert i b; decide

/-- Columns `128 b …` of a slab's product, from row `0` or row `128`, lie inside it. -/
theorem prod_slices (h : Fin 2) (b : Fin 16) : S256x2048.Slices ![128 * h.val, 128 * b.val] S128x128 := by
  revert h b; decide

/-- Columns `128 b …` of the carried row lie inside it. -/
theorem carry_slices (b : Fin 16) : S1x2048.Slices ![0, 128 * b.val] S1x128 := by
  revert b; decide

/-- A slab's product: the slab of the weight table against the input block. -/
def prod (x : Vec F S16x1x128x512 .f32) (a : Vec F S512x256 .bf16) : FVec F S256x2048 .f32 :=
  matmul dot_S512x256_S2048x512_S256x2048_0_1_1_0_n_n none (shapeCast S512x256 a shapeCasts_S512x256_S512x256) (k0_pay2 x)
    (constant S256x2048 .f32 0x00000000#32)

/-- The smoothed block of a tile: the product's first half, and the decay times the carried row. -/
def smoothed (p : FVec F S256x2048 .f32) (q : Vec F S128x128 .f32) (cy : Vec F S1x2048 .f32) (b : Fin 16) : FVec F S128x128 .f32 :=
  addf (extractStridedSlice S128x128 ![0, 128 * b.val] p (prod_slices 0 b))
    (mulf (shapeCast S128x128 q shapeCasts_S128x128_S128x128)
      (broadcastTo S128x128 (extractStridedSlice S1x128 ![0, 128 * b.val] cy (carry_slices b)) broadcasts_S1x128_S128x128))

/-- The tile the kernel stores for one slab and one batch, from the slab's product, its rows of the decay table, the
carried row and the four rows of gains. -/
def tile (p : FVec F S256x2048 .f32) (q : Vec F S128x128 .f32) (cy : Vec F S1x2048 .f32) (na d drr rr : FVec F S1x128 .f32)
    (b : Fin 16) : FVec F S1x1x128x128 .f32 :=
  shapeCast S1x1x128x128
    (subf
      (exp2 (mulf (broadcastTo S128x128 rr broadcasts_S1x128_S128x128)
        (log (addf
          (mulf (extractStridedSlice S128x128 ![128, 128 * b.val] p (prod_slices 1 b))
            (exp2 (mulf (broadcastTo S128x128 na broadcasts_S1x128_S128x128)
              (log (addf (broadcast S128x128 (Scalar.ofBits .f32 0x3727C5AC#32)) (smoothed p q cy b))))))
          (broadcastTo S128x128 d broadcasts_S1x128_S128x128)))))
      (broadcastTo S128x128 drr broadcasts_S1x128_S128x128))
    shapeCasts_S128x128_S1x1x128x128

/-- The row the first point starts the carry from: row `128` of the first slab's product. -/
def carry0 (x : Vec F S16x1x128x512 .f32) (a : Vec F S512x256 .bf16) : FVec F S1x2048 .f32 :=
  shapeCast S1x2048 (extractStridedSlice S1x2048 ![128, 0] (prod x a) slices_S256x2048_o128_0_S1x2048) shapeCasts_S1x2048_S1x2048

/-- The row a point hands to the next one: the last weights against the block, and the decay over a block times the row
it was handed. -/
def carryNext (x : Vec F S16x1x128x512 .f32) (a : Vec F S512x1 .bf16) (q : Vec F S1x1 .f32) (cy : Vec F S1x2048 .f32) :
    FVec F S1x2048 .f32 :=
  shapeCast S1x2048
    (addf (matmul dot_S512x1_S2048x512_S1x2048_0_1_1_0_n_n none (shapeCast S512x1 a shapeCasts_S512x1_S512x1) (k0_pay2 x)
        (constant S1x2048 .f32 0x00000000#32))
      (mulf (broadcastTo S1x2048 (k0_pay10 q) broadcasts_S1x1_S1x2048) cy))
    shapeCasts_S1x2048_S1x2048

/-- Tile number `k` of the sixty-four, slab by slab: where it goes in the block and what it holds. -/
def piece (x0 : Vec F S16x1x128x512 .f32) (x1 : Vec F S512x1032 .bf16) (x2 : Vec F S512x128 .f32)
    (x3 x4 x5 : Vec F S1x128 .f32) (cy : Vec F S1x2048 .f32) (i : Fin 4) (b : Fin 16) :
    View.Piece (Elt F) S16x1x512x128 .f32 :=
  ⟨Rect.unit ![b.val, 0, 128 * i.val, 0] ![1, 1, 128, 128] (tile_inb i b),
    tile (prod x0 (View.ld x1 (Rect.unit ![0, 256 * i.val] S512x256.size (slab_inb i))))
      (View.ld x2 (Rect.unit ![128 * i.val, 0] S128x128.size (decay_inb i))) cy
      (k0_pay3 x3) (k0_pay4 x4) (k0_pay6 x5 x4) (k0_pay7 x5) b⟩

/-- The sixty-four tiles, the last stored first. -/
def pieces (x0 : Vec F S16x1x128x512 .f32) (x1 : Vec F S512x1032 .bf16) (x2 : Vec F S512x128 .f32)
    (x3 x4 x5 : Vec F S1x128 .f32) (cy : Vec F S1x2048 .f32) : List (View.Piece (Elt F) S16x1x512x128 .f32) :=
  (List.finRange 4).reverse.flatMap fun i => (List.finRange 16).reverse.map fun b => piece x0 x1 x2 x3 x4 x5 cy i b

/-- The offsets of a load from the origin. -/
theorem zero2 : (![0, 0] : Fin 2 → ℕ) = fun _ => 0 := by decide

/-- The offsets of a load from the origin. -/
theorem zero4 : (![0, 0, 0, 0] : Fin 4 → ℕ) = fun _ => 0 := by decide

/-- A load of the whole input block reads it. -/
theorem ld_block (x : Vec F S16x1x128x512 .f32) (h) : View.ld x (Rect.unit ![0, 0, 0, 0] S16x1x128x512.size h) = x :=
  View.ld_unit_zero (S := S16x1x128x512) zero4 h x

/-- A load of a whole row of gains reads it. -/
theorem ld_gain (x : Vec F S1x128 .f32) (h) : View.ld x (Rect.unit ![0, 0] S1x128.size h) = x :=
  View.ld_unit_zero (S := S1x128) zero2 h x

/-- A load of the whole carried row reads it. -/
theorem ld_carry (x : Vec F S1x2048 .f32) (h) : View.ld x (Rect.unit ![0, 0] S1x2048.size h) = x :=
  View.ld_unit_zero (S := S1x2048) zero2 h x

/-- A load of the whole carried row after one store of it reads what was stored. -/
theorem cov_carry {κ : Kind} {sp : Space} (v : View sig κ sp S1x2048 .f32) (x : Vec F S1x2048 .f32) (h) :
    v.readCov [(⟨Rect.unit ![0, 0] S1x2048.size h, x⟩ : View.Piece (Elt F) S1x2048 .f32)] (Rect.unit ![0, 0] S1x2048.size h).toLoadRect = x :=
  View.readCov_unit_zero (S := S1x2048) v zero2 h x

/-- The tiles the first point's body stores: the carried row is the one that point starts from. -/
theorem run_A_pieces (c : Dev nD) (i : grid0.Coords)
    (arg2 : Memref sig .tc .vmem S16x1x128x512 .f32) (harg2 : arg2.IsWhole) (arg3 : Memref sig .tc .vmem S512x1032 .bf16) (harg3 : arg3.IsWhole)
    (arg4 : Memref sig .tc .vmem S512x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S16x1x512x128 .f32) (harg8 : arg8.IsWhole) (arg9 : Memref sig .tc .vmem S1x2048 .f32) (harg9 : arg9.IsWhole)
    (hc0 : cond0_0 i)
    (x0 : Vec F S16x1x128x512 .f32) (x1 : Vec F S512x1032 .bf16) (x2 : Vec F S512x128 .f32) (x3 x4 x5 : Vec F S1x128 .f32) :
    (kernelRun0_A c i arg2 harg2 arg3 harg3 arg4 harg4 arg5 harg5 arg6 harg6 arg7 harg7 arg8 harg8 arg9 harg9 hc0 x0 x1 x2 x3 x4 x5).1
      = pieces x0 x1 x2 x3 x4 x5 (carry0 x0 (View.ld x1 (Rect.unit ![0, 0] S512x256.size inb_S512x1032_S512x256_0_0))) := by
  have h : (kernelRun0_A c i arg2 harg2 arg3 harg3 arg4 harg4 arg5 harg5 arg6 harg6 arg7 harg7 arg8 harg8 arg9 harg9 hc0 x0 x1 x2 x3 x4 x5).1
      = pieces (View.ld (arg2.view.read (Elt F) (harg2.unread x0)) (Rect.unit ![0, 0, 0, 0] S16x1x128x512.size inb_S16x1x128x512_S16x1x128x512_0_0_0_0)) (arg3.view.read (Elt F) (harg3.unread x1)) (arg4.view.read (Elt F) (harg4.unread x2))
          (View.ld (arg5.view.read (Elt F) (harg5.unread x3)) (Rect.unit ![0, 0] S1x128.size inb_S1x128_S1x128_0_0))
          (View.ld (arg6.view.read (Elt F) (harg6.unread x4)) (Rect.unit ![0, 0] S1x128.size inb_S1x128_S1x128_0_0))
          (View.ld (arg7.view.read (Elt F) (harg7.unread x5)) (Rect.unit ![0, 0] S1x128.size inb_S1x128_S1x128_0_0))
          (arg9.view.readCov [⟨(Rect.unit ![0, 0] S1x2048.size inb_S1x2048_S1x2048_0_0), carry0 (View.ld (arg2.view.read (Elt F) (harg2.unread x0)) (Rect.unit ![0, 0, 0, 0] S16x1x128x512.size inb_S16x1x128x512_S16x1x128x512_0_0_0_0)) (View.ld (arg3.view.read (Elt F) (harg3.unread x1)) (Rect.unit ![0, 0] S512x256.size inb_S512x1032_S512x256_0_0))⟩] (Rect.unit ![0, 0] S1x2048.size inb_S1x2048_S1x2048_0_0).toLoadRect) := rfl
  rw [h]
  rw [harg2.read_unread, harg3.read_unread, harg4.read_unread, harg5.read_unread, harg6.read_unread, harg7.read_unread,
    ld_block, ld_gain, ld_gain, ld_gain, cov_carry]

/-- What the first point's body leaves in the carried row: the starting row, then the next one over it. -/
theorem run_A_carry (c : Dev nD) (i : grid0.Coords)
    (arg2 : Memref sig .tc .vmem S16x1x128x512 .f32) (harg2 : arg2.IsWhole) (arg3 : Memref sig .tc .vmem S512x1032 .bf16) (harg3 : arg3.IsWhole)
    (arg4 : Memref sig .tc .vmem S512x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S16x1x512x128 .f32) (harg8 : arg8.IsWhole) (arg9 : Memref sig .tc .vmem S1x2048 .f32) (harg9 : arg9.IsWhole)
    (hc0 : cond0_0 i)
    (x0 : Vec F S16x1x128x512 .f32) (x1 : Vec F S512x1032 .bf16) (x2 : Vec F S512x128 .f32) (x3 x4 x5 : Vec F S1x128 .f32) :
    (kernelRun0_A c i arg2 harg2 arg3 harg3 arg4 harg4 arg5 harg5 arg6 harg6 arg7 harg7 arg8 harg8 arg9 harg9 hc0 x0 x1 x2 x3 x4 x5).2.1
      = [⟨(Rect.unit ![0, 0] S1x2048.size inb_S1x2048_S1x2048_0_0), carryNext x0 (View.ld x1 (Rect.unit ![0, 1024] S512x1.size inb_S512x1032_S512x1_0_1024)) (View.ld x2 (Rect.unit ![511, 0] S1x1.size inb_S512x128_S1x1_511_0)) (carry0 x0 (View.ld x1 (Rect.unit ![0, 0] S512x256.size inb_S512x1032_S512x256_0_0)))⟩,
         ⟨(Rect.unit ![0, 0] S1x2048.size inb_S1x2048_S1x2048_0_0), carry0 x0 (View.ld x1 (Rect.unit ![0, 0] S512x256.size inb_S512x1032_S512x256_0_0))⟩] := by
  have h : (kernelRun0_A c i arg2 harg2 arg3 harg3 arg4 harg4 arg5 harg5 arg6 harg6 arg7 harg7 arg8 harg8 arg9 harg9 hc0 x0 x1 x2 x3 x4 x5).2.1
      = [⟨(Rect.unit ![0, 0] S1x2048.size inb_S1x2048_S1x2048_0_0), carryNext (View.ld (arg2.view.read (Elt F) (harg2.unread x0)) (Rect.unit ![0, 0, 0, 0] S16x1x128x512.size inb_S16x1x128x512_S16x1x128x512_0_0_0_0)) (View.ld (arg3.view.read (Elt F) (harg3.unread x1)) (Rect.unit ![0, 1024] S512x1.size inb_S512x1032_S512x1_0_1024)) (View.ld (arg4.view.read (Elt F) (harg4.unread x2)) (Rect.unit ![511, 0] S1x1.size inb_S512x128_S1x1_511_0))
          (arg9.view.readCov [⟨(Rect.unit ![0, 0] S1x2048.size inb_S1x2048_S1x2048_0_0), carry0 (View.ld (arg2.view.read (Elt F) (harg2.unread x0)) (Rect.unit ![0, 0, 0, 0] S16x1x128x512.size inb_S16x1x128x512_S16x1x128x512_0_0_0_0)) (View.ld (arg3.view.read (Elt F) (harg3.unread x1)) (Rect.unit ![0, 0] S512x256.size inb_S512x1032_S512x256_0_0))⟩] (Rect.unit ![0, 0] S1x2048.size inb_S1x2048_S1x2048_0_0).toLoadRect)⟩,
         ⟨(Rect.unit ![0, 0] S1x2048.size inb_S1x2048_S1x2048_0_0), carry0 (View.ld (arg2.view.read (Elt F) (harg2.unread x0)) (Rect.unit ![0, 0, 0, 0] S16x1x128x512.size inb_S16x1x128x512_S16x1x128x512_0_0_0_0)) (View.ld (arg3.view.read (Elt F) (harg3.unread x1)) (Rect.unit ![0, 0] S512x256.size inb_S512x1032_S512x256_0_0))⟩] := rfl
  rw [h]
  rw [harg2.read_unread, harg3.read_unread, harg4.read_unread, ld_block, cov_carry]

/-- The tiles a later point's body stores: the carried row is the one it was handed. -/
theorem run_B_pieces (c : Dev nD) (i : grid0.Coords)
    (arg2 : Memref sig .tc .vmem S16x1x128x512 .f32) (harg2 : arg2.IsWhole) (arg3 : Memref sig .tc .vmem S512x1032 .bf16) (harg3 : arg3.IsWhole)
    (arg4 : Memref sig .tc .vmem S512x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S16x1x512x128 .f32) (harg8 : arg8.IsWhole) (arg9 : Memref sig .tc .vmem S1x2048 .f32) (harg9 : arg9.IsWhole)
    (hc0 : ¬cond0_0 i)
    (x0 : Vec F S16x1x128x512 .f32) (x1 : Vec F S512x1032 .bf16) (x2 : Vec F S512x128 .f32) (x3 x4 x5 : Vec F S1x128 .f32) (xs0 : Vec F S1x2048 .f32) :
    (kernelRun0_B c i arg2 harg2 arg3 harg3 arg4 harg4 arg5 harg5 arg6 harg6 arg7 harg7 arg8 harg8 arg9 harg9 hc0 x0 x1 x2 x3 x4 x5 xs0).1 = pieces x0 x1 x2 x3 x4 x5 xs0 := by
  have h : (kernelRun0_B c i arg2 harg2 arg3 harg3 arg4 harg4 arg5 harg5 arg6 harg6 arg7 harg7 arg8 harg8 arg9 harg9 hc0 x0 x1 x2 x3 x4 x5 xs0).1
      = pieces (View.ld (arg2.view.read (Elt F) (harg2.unread x0)) (Rect.unit ![0, 0, 0, 0] S16x1x128x512.size inb_S16x1x128x512_S16x1x128x512_0_0_0_0)) (arg3.view.read (Elt F) (harg3.unread x1)) (arg4.view.read (Elt F) (harg4.unread x2))
          (View.ld (arg5.view.read (Elt F) (harg5.unread x3)) (Rect.unit ![0, 0] S1x128.size inb_S1x128_S1x128_0_0))
          (View.ld (arg6.view.read (Elt F) (harg6.unread x4)) (Rect.unit ![0, 0] S1x128.size inb_S1x128_S1x128_0_0))
          (View.ld (arg7.view.read (Elt F) (harg7.unread x5)) (Rect.unit ![0, 0] S1x128.size inb_S1x128_S1x128_0_0))
          (View.ld (arg9.view.read (Elt F) (harg9.unread xs0)) (Rect.unit ![0, 0] S1x2048.size inb_S1x2048_S1x2048_0_0)) := rfl
  rw [h]
  rw [harg2.read_unread, harg3.read_unread, harg4.read_unread, harg5.read_unread, harg6.read_unread, harg7.read_unread,
    ld_block, ld_gain, ld_gain, ld_gain, harg9.read_unread, ld_carry]

/-- What a later point's body leaves in the carried row: the next row over the one it was handed. -/
theorem run_B_carry (c : Dev nD) (i : grid0.Coords)
    (arg2 : Memref sig .tc .vmem S16x1x128x512 .f32) (harg2 : arg2.IsWhole) (arg3 : Memref sig .tc .vmem S512x1032 .bf16) (harg3 : arg3.IsWhole)
    (arg4 : Memref sig .tc .vmem S512x128 .f32) (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x128 .f32) (harg7 : arg7.IsWhole)
    (arg8 : Memref sig .tc .vmem S16x1x512x128 .f32) (harg8 : arg8.IsWhole) (arg9 : Memref sig .tc .vmem S1x2048 .f32) (harg9 : arg9.IsWhole)
    (hc0 : ¬cond0_0 i)
    (x0 : Vec F S16x1x128x512 .f32) (x1 : Vec F S512x1032 .bf16) (x2 : Vec F S512x128 .f32) (x3 x4 x5 : Vec F S1x128 .f32) (xs0 : Vec F S1x2048 .f32) :
    (kernelRun0_B c i arg2 harg2 arg3 harg3 arg4 harg4 arg5 harg5 arg6 harg6 arg7 harg7 arg8 harg8 arg9 harg9 hc0 x0 x1 x2 x3 x4 x5 xs0).2.1
      = [⟨(Rect.unit ![0, 0] S1x2048.size inb_S1x2048_S1x2048_0_0), carryNext x0 (View.ld x1 (Rect.unit ![0, 1024] S512x1.size inb_S512x1032_S512x1_0_1024)) (View.ld x2 (Rect.unit ![511, 0] S1x1.size inb_S512x128_S1x1_511_0)) xs0⟩] := by
  have h : (kernelRun0_B c i arg2 harg2 arg3 harg3 arg4 harg4 arg5 harg5 arg6 harg6 arg7 harg7 arg8 harg8 arg9 harg9 hc0 x0 x1 x2 x3 x4 x5 xs0).2.1
      = [⟨(Rect.unit ![0, 0] S1x2048.size inb_S1x2048_S1x2048_0_0), carryNext (View.ld (arg2.view.read (Elt F) (harg2.unread x0)) (Rect.unit ![0, 0, 0, 0] S16x1x128x512.size inb_S16x1x128x512_S16x1x128x512_0_0_0_0)) (View.ld (arg3.view.read (Elt F) (harg3.unread x1)) (Rect.unit ![0, 1024] S512x1.size inb_S512x1032_S512x1_0_1024)) (View.ld (arg4.view.read (Elt F) (harg4.unread x2)) (Rect.unit ![511, 0] S1x1.size inb_S512x128_S1x1_511_0))
          (View.ld (arg9.view.read (Elt F) (harg9.unread xs0)) (Rect.unit ![0, 0] S1x2048.size inb_S1x2048_S1x2048_0_0))⟩] := rfl
  rw [h]
  rw [harg2.read_unread, harg3.read_unread, harg4.read_unread, ld_block, harg9.read_unread, ld_carry]

end Cert.KernelIdeal.Hand

end
-- ==== Proof.Block.lean ====
/- What one grid point of the kernel computes, entry by entry, over the extended reals. -/
module

public import proofs.«01_k».proof.Proof.Tile
public import Idealize.ShloMosaic.Lib.ValueIdx
public import Idealize.ShloMosaic.PureOps.Ideal.Laws

@[expose] public section

set_option maxRecDepth 16384

noncomputable section

namespace Cert.KernelIdeal.Hand

open Cert.KernelIdeal Cert.KernelIdeal.Gen Idealize.ShloMosaic Idealize.ShloMosaic.ValueIdx

/-- The input block as a matrix: row `j` is batch `j / 128`, band `j % 128`. -/
theorem pay2_apply (x : Vec Ideal S16x1x128x512 .f32) (j : Fin 2048) (k : Fin 512) :
    k0_pay2 (F := Ideal) x (ix2 j k) = x (ix4 ⟨j.val / 128, by omega⟩ 0 ⟨j.val % 128, by omega⟩ k) := by
  show shapeCast S2048x512 x shapeCasts_S16x1x128x512_S2048x512 (ix2 j k) = _
  refine shapeCast_apply x _ _ _ ?_
  rw [Shape.rowMajor_val_four, Shape.rowMajor_val_two]
  show ((j.val / 128 * 1 + 0) * 128 + j.val % 128) * 512 + k.val = j.val * 512 + k.val
  omega

/-- An entry of a slab's product: column `r` of the slab against row `j` of the block. -/
theorem prod_apply (x : Vec Ideal S16x1x128x512 .f32) (a : Vec Ideal S512x256 .bf16) (r : Fin 256) (j : Fin 2048) :
    prod x a (ix2 r j) = ∑ k : Fin 512, a (ix2 k r) * x (ix4 ⟨j.val / 128, by omega⟩ 0 ⟨j.val % 128, by omega⟩ k) := by
  unfold prod
  simp only [matmul]
  rw [Ideal.matmul_apply, ← Equiv.sum_comp (contrEquiv1 dot_S512x256_S2048x512_S256x2048_0_1_1_0_n_n 512 rfl rfl).symm]
  have h0 : (constant S256x2048 .f32 0x00000000#32 : FVec Ideal S256x2048 .f32) (ix2 r j) = 0 := Ideal.ofBits_zero_f32
  rw [h0, zero_add]
  refine Finset.sum_congr rfl fun k _ => ?_
  have hk := contrEquiv1_symm_val dot_S512x256_S2048x512_S256x2048_0_1_1_0_n_n 512 rfl rfl k
  have el : dot_S512x256_S2048x512_S256x2048_0_1_1_0_n_n.lhsIdx (ix2 r j) ((contrEquiv1 dot_S512x256_S2048x512_S256x2048_0_1_1_0_n_n 512 rfl rfl).symm k) = ix2 k r :=
    funext fun c => Fin.ext (by
      match c with
      | ⟨0, _⟩ => exact (dot_S512x256_S2048x512_S256x2048_0_1_1_0_n_n.lhsIdx_val_of_single rfl _ _).trans hk
      | ⟨1, _⟩ => rfl)
  have er : dot_S512x256_S2048x512_S256x2048_0_1_1_0_n_n.rhsIdx (ix2 r j) ((contrEquiv1 dot_S512x256_S2048x512_S256x2048_0_1_1_0_n_n 512 rfl rfl).symm k) = ix2 j k :=
    funext fun c => Fin.ext (by
      match c with
      | ⟨0, _⟩ => rfl
      | ⟨1, _⟩ => exact (dot_S512x256_S2048x512_S256x2048_0_1_1_0_n_n.rhsIdx_val_of_single rfl _ _).trans hk)
  rw [el, er, pay2_apply]
  congr 1
  exact shapeCast_apply a _ _ _ rfl

/-- An entry of a tile. -/
theorem tile_apply (p : FVec Ideal S256x2048 .f32) (q : Vec Ideal S128x128 .f32) (cy : Vec Ideal S1x2048 .f32)
    (na d drr rr : FVec Ideal S1x128 .f32) (b : Fin 16) (r n : Fin 128) :
    tile p q cy na d drr rr b (ix4 0 0 r n)
      = Ideal.exp2 (rr (ix2 0 n) * Ideal.log (p (ix2 ⟨128 + r.val, by omega⟩ ⟨128 * b.val + n.val, by omega⟩)
            * Ideal.exp2 (na (ix2 0 n) * Ideal.log (Ideal.ofBits .f32 0x3727C5AC#32
              + (p (ix2 ⟨r.val, by omega⟩ ⟨128 * b.val + n.val, by omega⟩)
                + q (ix2 r n) * cy (ix2 0 ⟨128 * b.val + n.val, by omega⟩)))) + d (ix2 0 n)))
        - drr (ix2 0 n) := by
  unfold tile
  rw [shapeCast_apply _ shapeCasts_S128x128_S1x1x128x128 (ix4 0 0 r n) (ix2 r n) (by
    rw [Shape.rowMajor_val_four, Shape.rowMajor_val_two]
    show r.val * 128 + n.val = ((0 * 1 + 0) * 128 + r.val) * 128 + n.val
    omega)]
  have bc (v : FVec Ideal S1x128 .f32) : broadcastTo S128x128 v broadcasts_S1x128_S128x128 (ix2 r n) = v (ix2 0 n) :=
    broadcastTo_apply v _ _ _ fun a => match a with
      | ⟨0, _⟩ => rfl
      | ⟨1, _⟩ => rfl
  show Ideal.exp2 (broadcastTo S128x128 rr broadcasts_S1x128_S128x128 (ix2 r n) * Ideal.log
        (extractStridedSlice S128x128 ![128, 128 * b.val] p (prod_slices 1 b) (ix2 r n)
          * Ideal.exp2 (broadcastTo S128x128 na broadcasts_S1x128_S128x128 (ix2 r n) * Ideal.log (Ideal.ofBits .f32 0x3727C5AC#32
            + (extractStridedSlice S128x128 ![0, 128 * b.val] p (prod_slices 0 b) (ix2 r n)
              + shapeCast S128x128 q shapeCasts_S128x128_S128x128 (ix2 r n)
                * broadcastTo S128x128 (extractStridedSlice S1x128 ![0, 128 * b.val] cy (carry_slices b)) broadcasts_S1x128_S128x128 (ix2 r n))))
          + broadcastTo S128x128 d broadcasts_S1x128_S128x128 (ix2 r n)))
      - broadcastTo S128x128 drr broadcasts_S1x128_S128x128 (ix2 r n) = _
  rw [bc, bc, bc, bc, bc, shapeCast_apply q _ (ix2 r n) (ix2 r n) rfl,
    extractStridedSlice_apply ![128, 128 * b.val] p _ (ix2 r n) (ix2 ⟨128 + r.val, by omega⟩ ⟨128 * b.val + n.val, by omega⟩)
      (fun a => match a with | ⟨0, _⟩ => rfl | ⟨1, _⟩ => rfl),
    extractStridedSlice_apply ![0, 128 * b.val] p _ (ix2 r n) (ix2 ⟨r.val, by omega⟩ ⟨128 * b.val + n.val, by omega⟩)
      (fun a => match a with | ⟨0, _⟩ => (Nat.zero_add _).symm | ⟨1, _⟩ => rfl),
    extractStridedSlice_apply ![0, 128 * b.val] cy _ (ix2 0 n) (ix2 0 ⟨128 * b.val + n.val, by omega⟩)
      (fun a => match a with | ⟨0, _⟩ => rfl | ⟨1, _⟩ => rfl)]

/-- The column of the weight table that holds the weights of row `t` of the block. -/
def wcol (t : Fin 512) : Fin 1032 := ⟨256 * (t.val / 128) + t.val % 128, by omega⟩

/-- The column of the weight table that picks row `t` of the block. -/
def icol (t : Fin 512) : Fin 1032 := ⟨256 * (t.val / 128) + (128 + t.val % 128), by omega⟩

/-- The place of batch `b` and band `n` in the carried row. -/
def place (b : Fin 16) (n : Fin 128) : Fin 2048 := ⟨128 * b.val + n.val, by omega⟩

/-- Column `w` of the weight table against one line of the input block. -/
def against (x0 : Vec Ideal S16x1x128x512 .f32) (x1 : Vec Ideal S512x1032 .bf16) (w : Fin 1032) (b : Fin 16) (n : Fin 128) : EReal :=
  ∑ k : Fin 512, x1 (ix2 k w) * x0 (ix4 b 0 n k)

/-- The kernel's last steps on one entry: the smoothed value `s`, the input `x`, and the band's three parameters. -/
def finish (s x a d r : EReal) : EReal :=
  Ideal.exp2 (Ideal.exp r * (((Real.log 2)⁻¹ : ℝ) : EReal) * Ideal.log (x
      * Ideal.exp2 ((0 - Ideal.exp a) * (((Real.log 2)⁻¹ : ℝ) : EReal) * Ideal.log (Ideal.ofBits .f32 0x3727C5AC#32 + s)) + Ideal.exp d))
    - Ideal.exp (Ideal.exp r * d)

/-- What a point's block holds at an entry. -/
def blockVal (x0 : Vec Ideal S16x1x128x512 .f32) (x1 : Vec Ideal S512x1032 .bf16) (x2 : Vec Ideal S512x128 .f32)
    (x3 x4 x5 : Vec Ideal S1x128 .f32) (cy : Vec Ideal S1x2048 .f32) (b : Fin 16) (t : Fin 512) (n : Fin 128) : EReal :=
  finish (against x0 x1 (wcol t) b n + x2 (ix2 t n) * cy (ix2 0 (place b n))) (against x0 x1 (icol t) b n)
    (x3 (ix2 0 n)) (x4 (ix2 0 n)) (x5 (ix2 0 n))

/-- Every tile holds its own part of the block. -/
theorem piece_apply (x0 : Vec Ideal S16x1x128x512 .f32) (x1 : Vec Ideal S512x1032 .bf16) (x2 : Vec Ideal S512x128 .f32)
    (x3 x4 x5 : Vec Ideal S1x128 .f32) (cy : Vec Ideal S1x2048 .f32) (i : Fin 4) (b : Fin 16)
    (z : (piece (F := Ideal) x0 x1 x2 x3 x4 x5 cy i b).1.shape.Idx) :
    (piece (F := Ideal) x0 x1 x2 x3 x4 x5 cy i b).2 z
      = (fun y : S16x1x512x128.Idx => blockVal x0 x1 x2 x3 x4 x5 cy (y 0) (y 2) (y 3))
          ((piece (F := Ideal) x0 x1 x2 x3 x4 x5 cy i b).1.emb z) := by
  obtain ⟨e, f, r, n, rfl⟩ : ∃ (e f : Fin 1) (r n : Fin 128), z = ix4 e f r n := ⟨_, _, _, _, eq_ix4 z⟩
  obtain rfl : e = 0 := Subsingleton.elim _ _
  obtain rfl : f = 0 := Subsingleton.elim _ _
  have hy0 : (piece (F := Ideal) x0 x1 x2 x3 x4 x5 cy i b).1.emb (ix4 0 0 r n) 0 = b := Fin.ext (by
    show b.val + 1 * 0 = b.val; omega)
  have hy2 : (piece (F := Ideal) x0 x1 x2 x3 x4 x5 cy i b).1.emb (ix4 0 0 r n) 2 = (⟨128 * i.val + r.val, by omega⟩ : Fin 512) := Fin.ext (by
    show 128 * i.val + 1 * r.val = 128 * i.val + r.val; omega)
  have hy3 : (piece (F := Ideal) x0 x1 x2 x3 x4 x5 cy i b).1.emb (ix4 0 0 r n) 3 = n := Fin.ext (by
    show 0 + 1 * n.val = n.val; omega)
  beta_reduce
  rw [hy0, hy2, hy3]
  show tile (prod x0 (View.ld x1 (Rect.unit ![0, 256 * i.val] S512x256.size (slab_inb i))))
      (View.ld x2 (Rect.unit ![128 * i.val, 0] S128x128.size (decay_inb i))) cy
      (k0_pay3 x3) (k0_pay4 x4) (k0_pay6 x5 x4) (k0_pay7 x5) b (ix4 0 0 r n) = _
  rw [tile_apply, prod_apply, prod_apply]
  have ha (h : Fin 256) (w : Fin 1032) (hw : w.val = 256 * i.val + h.val) :
      (∑ k : Fin 512, View.ld x1 (Rect.unit ![0, 256 * i.val] S512x256.size (slab_inb i)) (ix2 k h)
        * x0 (ix4 ⟨(128 * b.val + n.val) / 128, by omega⟩ 0 ⟨(128 * b.val + n.val) % 128, by omega⟩ k)) = against x0 x1 w b n := by
    unfold against
    refine Finset.sum_congr rfl fun k _ => ?_
    congr 1
    · refine congrArg x1 (funext fun a => Fin.ext ?_)
      match a with
      | ⟨0, _⟩ => show 0 + 1 * k.val = k.val; omega
      | ⟨1, _⟩ => show 256 * i.val + 1 * h.val = w.val; omega
    · rw [show (⟨(128 * b.val + n.val) / 128, by omega⟩ : Fin 16) = b from Fin.ext (by show (128 * b.val + n.val) / 128 = b.val; omega),
        show (⟨(128 * b.val + n.val) % 128, by omega⟩ : Fin 128) = n from Fin.ext (by show (128 * b.val + n.val) % 128 = n.val; omega)]
  rw [ha ⟨128 + r.val, by omega⟩ (icol ⟨128 * i.val + r.val, by omega⟩) (by
      show 256 * ((128 * i.val + r.val) / 128) + (128 + (128 * i.val + r.val) % 128) = 256 * i.val + (128 + r.val); omega),
    ha ⟨r.val, by omega⟩ (wcol ⟨128 * i.val + r.val, by omega⟩) (by
      show 256 * ((128 * i.val + r.val) / 128) + (128 * i.val + r.val) % 128 = 256 * i.val + r.val; omega)]
  have hq : View.ld x2 (Rect.unit ![128 * i.val, 0] S128x128.size (decay_inb i)) (ix2 r n) = x2 (ix2 ⟨128 * i.val + r.val, by omega⟩ n) := by
    refine congrArg x2 (funext fun a => Fin.ext ?_)
    match a with
    | ⟨0, _⟩ => show 128 * i.val + 1 * r.val = 128 * i.val + r.val; omega
    | ⟨1, _⟩ => show 0 + 1 * n.val = n.val; omega
  rw [hq]
  have sc (v : Vec Ideal S1x128 .f32) : shapeCast S1x128 v shapeCasts_S1x128_S1x128 (ix2 0 n) = v (ix2 0 n) :=
    shapeCast_apply v _ _ _ rfl
  have h3 : k0_pay3 (F := Ideal) x3 (ix2 0 n) = (0 - Ideal.exp (x3 (ix2 0 n))) * (((Real.log 2)⁻¹ : ℝ) : EReal) := by
    rw [← sc x3, ← Ideal.ofBits_zero_f32]; rfl
  have h4 : k0_pay4 (F := Ideal) x4 (ix2 0 n) = Ideal.exp (x4 (ix2 0 n)) := by rw [← sc x4]; rfl
  have h6 : k0_pay6 (F := Ideal) x5 x4 (ix2 0 n) = Ideal.exp (Ideal.exp (x5 (ix2 0 n)) * x4 (ix2 0 n)) := by rw [← sc x4, ← sc x5]; rfl
  have h7 : k0_pay7 (F := Ideal) x5 (ix2 0 n) = Ideal.exp (x5 (ix2 0 n)) * (((Real.log 2)⁻¹ : ℝ) : EReal) := by rw [← sc x5]; rfl
  rw [h3, h4, h6, h7]
  rfl

end Cert.KernelIdeal.Hand

end
-- ==== Proof.Points.lean ====
/- The carried row from point to point, and what the kernel's result array holds. -/
module

public import proofs.«01_k».proof.Proof.Block
public import Idealize.ShloMosaic.Lib.VecWindow

@[expose] public section

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem

/-- The column of the weight table that holds the weights of the carried row. -/
def ccol : Fin 1032 := ⟨1024, by omega⟩

/-- The row the first point starts from: the first column of the block, picked out by the table. -/
theorem carry0_apply (x0 : Vec Ideal S16x1x128x512 .f32) (x1 : Vec Ideal S512x1032 .bf16) (b : Fin 16) (n : Fin 128) :
    carry0 x0 (View.ld x1 (Rect.unit ![0, 0] S512x256.size inb_S512x1032_S512x256_0_0)) (ix2 0 (place b n))
      = against x0 x1 (icol 0) b n := by
  unfold carry0
  rw [shapeCast_apply _ _ (ix2 0 (place b n)) (ix2 0 (place b n)) rfl,
    extractStridedSlice_apply ![128, 0] _ _ (ix2 0 (place b n)) (ix2 ⟨128, by omega⟩ (place b n))
      (fun a => match a with | ⟨0, _⟩ => rfl | ⟨1, _⟩ => (Nat.zero_add _).symm), prod_apply]
  unfold against
  refine Finset.sum_congr rfl fun k _ => ?_
  congr 1
  · refine congrArg x1 (funext fun a => Fin.ext ?_)
    match a with
    | ⟨0, _⟩ => show 0 + 1 * k.val = k.val; omega
    | ⟨1, _⟩ => rfl
  · rw [show (⟨(place b n).val / 128, by omega⟩ : Fin 16) = b from Fin.ext (by show (128 * b.val + n.val) / 128 = b.val; omega),
        show (⟨(place b n).val % 128, by omega⟩ : Fin 128) = n from Fin.ext (by show (128 * b.val + n.val) % 128 = n.val; omega)]

/-- The row a point hands on: the last weights against its block, plus the decay over a block times the row it used. -/
theorem carryNext_apply (x0 : Vec Ideal S16x1x128x512 .f32) (x1 : Vec Ideal S512x1032 .bf16) (x2 : Vec Ideal S512x128 .f32)
    (cy : Vec Ideal S1x2048 .f32) (b : Fin 16) (n : Fin 128) :
    carryNext x0 (View.ld x1 (Rect.unit ![0, 1024] S512x1.size inb_S512x1032_S512x1_0_1024))
        (View.ld x2 (Rect.unit ![511, 0] S1x1.size inb_S512x128_S1x1_511_0)) cy (ix2 0 (place b n))
      = against x0 x1 ccol b n + x2 (ix2 ⟨511, by omega⟩ 0) * cy (ix2 0 (place b n)) := by
  unfold carryNext
  rw [shapeCast_apply _ _ (ix2 0 (place b n)) (ix2 0 (place b n)) rfl]
  show FloatOps.matmul dot_S512x1_S2048x512_S1x2048_0_1_1_0_n_n none _ (k0_pay2 x0) (constant S1x2048 .f32 0x00000000#32) (ix2 0 (place b n))
      + broadcastTo S1x2048 (k0_pay10 _) broadcasts_S1x1_S1x2048 (ix2 0 (place b n)) * cy (ix2 0 (place b n)) = _
  have h0 : (constant S1x2048 .f32 0x00000000#32 : FVec Ideal S1x2048 .f32) (ix2 0 (place b n)) = 0 := Ideal.ofBits_zero_f32
  rw [Ideal.matmul_apply, ← Equiv.sum_comp (contrEquiv1 dot_S512x1_S2048x512_S1x2048_0_1_1_0_n_n 512 rfl rfl).symm, h0, zero_add]
  congr 1
  · unfold against
    refine Finset.sum_congr rfl fun k _ => ?_
    have hk := contrEquiv1_symm_val dot_S512x1_S2048x512_S1x2048_0_1_1_0_n_n 512 rfl rfl k
    have el : dot_S512x1_S2048x512_S1x2048_0_1_1_0_n_n.lhsIdx (ix2 0 (place b n)) ((contrEquiv1 dot_S512x1_S2048x512_S1x2048_0_1_1_0_n_n 512 rfl rfl).symm k) = ix2 k 0 :=
      funext fun c => Fin.ext (by
        match c with
        | ⟨0, _⟩ => exact (dot_S512x1_S2048x512_S1x2048_0_1_1_0_n_n.lhsIdx_val_of_single rfl _ _).trans hk
        | ⟨1, _⟩ => rfl)
    have er : dot_S512x1_S2048x512_S1x2048_0_1_1_0_n_n.rhsIdx (ix2 0 (place b n)) ((contrEquiv1 dot_S512x1_S2048x512_S1x2048_0_1_1_0_n_n 512 rfl rfl).symm k) = ix2 (place b n) k :=
      funext fun c => Fin.ext (by
        match c with
        | ⟨0, _⟩ => rfl
        | ⟨1, _⟩ => exact (dot_S512x1_S2048x512_S1x2048_0_1_1_0_n_n.rhsIdx_val_of_single rfl _ _).trans hk)
    rw [el, er, pay2_apply]
    congr 1
    · rw [shapeCast_apply _ _ (ix2 k 0) (ix2 k 0) rfl]
      refine congrArg x1 (funext fun a => Fin.ext ?_)
      match a with
      | ⟨0, _⟩ => show 0 + 1 * k.val = k.val; omega
      | ⟨1, _⟩ => rfl
    · rw [show (⟨(place b n).val / 128, by omega⟩ : Fin 16) = b from Fin.ext (by show (128 * b.val + n.val) / 128 = b.val; omega),
        show (⟨(place b n).val % 128, by omega⟩ : Fin 128) = n from Fin.ext (by show (128 * b.val + n.val) % 128 = n.val; omega)]
  · congr 1
    rw [broadcastTo_apply _ _ (ix2 0 (place b n)) (ix2 0 0) (fun a => match a with | ⟨0, _⟩ => rfl | ⟨1, _⟩ => rfl)]
    unfold k0_pay10
    rw [shapeCast_apply _ _ (ix2 0 0) (ix2 0 0) rfl]
    refine congrArg x2 (funext fun a => Fin.ext ?_)
    match a with
    | ⟨0, _⟩ => rfl
    | ⟨1, _⟩ => rfl

/-- What the tiles leave in the block, whatever it held before. -/
theorem read_pieces (x0 : Vec Ideal S16x1x128x512 .f32) (x1 : Vec Ideal S512x1032 .bf16) (x2 : Vec Ideal S512x128 .f32)
    (x3 x4 x5 : Vec Ideal S1x128 .f32) (cy : Vec Ideal S1x2048 .f32) (y : S16x1x512x128.Idx)
    (h : ∃ pc ∈ pieces (F := Ideal) x0 x1 x2 x3 x4 x5 cy, y ∈ pc.1.set) :
    VO0_6.read (Elt Ideal) (VO0_6.writes (Elt Ideal) VO0_6.junk (pieces (F := Ideal) x0 x1 x2 x3 x4 x5 cy)) y
      = blockVal x0 x1 x2 x3 x4 x5 cy (y 0) (y 2) (y 3) := by
  refine View.read_writes_apply_of_pieces _ _ (fun y : S16x1x512x128.Idx => blockVal x0 x1 x2 x3 x4 x5 cy (y 0) (y 2) (y 3)) _ ?_ y h
  intro pc hpc z
  unfold pieces at hpc
  obtain ⟨i, -, hpc⟩ := List.mem_flatMap.mp hpc
  obtain ⟨b, -, rfl⟩ := List.mem_map.mp hpc
  exact piece_apply x0 x1 x2 x3 x4 x5 cy i b z

/-- What the first point leaves in the carried row. -/
theorem read_carry {κ : Kind} {sp : Space} (v : View sig κ sp S1x2048 .f32) (f : v.ty.Contents (Elt Ideal)) (x : Vec Ideal S1x2048 .f32)
    (L : List (View.Piece (Elt Ideal) S1x2048 .f32)) :
    v.read (Elt Ideal) (v.writes (Elt Ideal) f
      ((⟨Rect.unit ![0, 0] S1x2048.size inb_S1x2048_S1x2048_0_0, x⟩ : View.Piece (Elt Ideal) S1x2048 .f32) :: L)) = x :=
  View.read_writes_full (s := S1x2048) v f _ x L

variable (m : (ℓ : Loc nD τ sig) → Buf (Elt Ideal) ℓ)

/-- The row point `n` uses. -/
def carryAt (c : Dev nD) : (n : ℕ) → n < cfg0.N → Vec Ideal S1x2048 .f32
  | 0, h => carry0 (iblk m c 0 ⟨0, h⟩) (View.ld (iblk m c 1 ⟨0, h⟩) (Rect.unit ![0, 0] S512x256.size inb_S512x1032_S512x256_0_0))
  | n + 1, h => carryNext (iblk m c 0 ⟨n, Nat.lt_of_succ_lt h⟩)
      (View.ld (iblk m c 1 ⟨n, Nat.lt_of_succ_lt h⟩) (Rect.unit ![0, 1024] S512x1.size inb_S512x1032_S512x1_0_1024))
      (View.ld (iblk m c 2 ⟨n, Nat.lt_of_succ_lt h⟩) (Rect.unit ![511, 0] S1x1.size inb_S512x128_S1x1_511_0))
      (carryAt c n (Nat.lt_of_succ_lt h))

/-- The row point `n` hands on, from the row it uses. -/
def handed (c : Dev nD) (n : ℕ) (h : n < cfg0.N) : Vec Ideal S1x2048 .f32 :=
  carryNext (iblk m c 0 ⟨n, h⟩)
      (View.ld (iblk m c 1 ⟨n, h⟩) (Rect.unit ![0, 1024] S512x1.size inb_S512x1032_S512x1_0_1024))
      (View.ld (iblk m c 2 ⟨n, h⟩) (Rect.unit ![511, 0] S1x1.size inb_S512x128_S1x1_511_0))
      (carryAt m c n h)

/-- What a point leaves: its block, computed with the row it uses, and the row it hands on. -/
theorem outsAt0_eq (c : Dev nD) (n : ℕ) (h : n < cfg0.N) :
    outsAt0 m c n h
      = (fun y : S16x1x512x128.Idx => blockVal (iblk m c 0 ⟨n, h⟩) (iblk m c 1 ⟨n, h⟩) (iblk m c 2 ⟨n, h⟩) (iblk m c 3 ⟨n, h⟩)
            (iblk m c 4 ⟨n, h⟩) (iblk m c 5 ⟨n, h⟩) (carryAt m c n h) (y 0) (y 2) (y 3),
          handed m c n h) := by
  induction n with
  | zero =>
    rw [outsAt0_A m c ⟨0, h⟩ rfl]
    refine Prod.ext (funext fun y => ?_) ?_
    · have hc := cover0_A_6 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) scM0_0
        (Memref.isWhole_whole _) ((hcond0_0 ⟨0, h⟩).mpr rfl) (iblk m c 0 ⟨0, h⟩) (iblk m c 1 ⟨0, h⟩) (iblk m c 2 ⟨0, h⟩) (iblk m c 3 ⟨0, h⟩)
        (iblk m c 4 ⟨0, h⟩) (iblk m c 5 ⟨0, h⟩) y
      dsimp only
      unfold out0_A_6
      rw [run_A_pieces] at hc ⊢
      exact read_pieces _ _ _ _ _ _ _ y hc
    · dsimp only
      unfold sout0_A_0
      rw [run_A_carry, read_carry]
      rfl
  | succ n ih =>
    have hN : n + 1 < 4 := lt_of_lt_of_eq h (show cfg0.N = 4 from N_0)
    have h0 : ¬(n + 1) % 4 = 0 := by omega
    rw [outsAt0_B m c ⟨n + 1, h⟩ h0]
    have hp : (outsAt0 m c ((⟨n + 1, h⟩ : Fin cfg0.N).val - 1) (by show n + 1 - 1 < cfg0.N; omega)).2 = carryAt m c (n + 1) h := by
      show (outsAt0 m c n _).2 = _
      rw [ih (Nat.lt_of_succ_lt h)]
      rfl
    refine Prod.ext (funext fun y => ?_) ?_
    · have hc := cover0_B_6 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
        (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0
        (Memref.isWhole_whole _) (fun hh => h0 ((hcond0_0 ⟨n + 1, h⟩).mp hh)) (iblk m c 0 ⟨n + 1, h⟩) (iblk m c 1 ⟨n + 1, h⟩) (iblk m c 2 ⟨n + 1, h⟩) (iblk m c 3 ⟨n + 1, h⟩)
        (iblk m c 4 ⟨n + 1, h⟩) (iblk m c 5 ⟨n + 1, h⟩) (carryAt m c (n + 1) h) y
      dsimp only
      unfold out0_B_6
      rw [run_B_pieces] at hc ⊢
      rw [hp]
      exact read_pieces _ _ _ _ _ _ _ y hc
    · dsimp only
      unfold sout0_B_0
      rw [run_B_carry, read_carry, hp]
      rfl

end Cert.KernelIdeal.Hand

end
-- ==== Proof.Tables.lean ====
/- The tables the host builds for the kernel, as terms of the operations that build them. -/
module

public import proofs.«01_k».proof.Proof.Points
public import Idealize.ShloMosaic.Lib.StableHlo.RunRead

@[expose] public section

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem

/-- The smoothing coefficient as the host computes it. -/
def coef : FVec Ideal S_ .f32 :=
  Host.divf (subf (Host.sqrt (constant S_ .f32 0x48800020#32)) (constant S_ .f32 0x3F800000#32)) (constant S_ .f32 0x48000000#32)

/-- One less the smoothing coefficient. -/
def keep : FVec Ideal S_ .f32 := subf (constant S_ .f32 0x3F800000#32) coef

/-- Row number less column number, over the square of a block. -/
def lag : IVec S512x512 32 :=
  subi
    (broadcastInDim S512x512 ![0, 1] bcast_S512x1_S512x512_0_1 (broadcastInDim S512x1 ![0] bcast_S512_S512x1_0 (iotaInDim S512 32 0)))
    (broadcastInDim S512x512 ![0, 1] bcast_S1x512_S512x512_0_1 (broadcastInDim S1x512 ![1] bcast_S512_S1x512_1 (iotaInDim S512 32 0)))

/-- A square of the word zero. -/
def zeros : IVec S512x512 32 := broadcastInDim S512x512 ![] bcast_S_S512x512 (constantI S_ 32 0#32)

/-- The smoothing weights of one block, row by output step. -/
def weights : FVec Ideal S512x512 .f32 :=
  select (cmpi .sge lag zeros)
    (mulf (broadcastInDim S512x512 ![] bcast_S_S512x512 coef)
      (Host.powf (broadcastInDim S512x512 ![] bcast_S_S512x512 keep) (sitofp .f32 (maxsi lag zeros))))
    (broadcastInDim S512x512 ![] bcast_S_S512x512 (constant S_ .f32 0x00000000#32))

/-- The identity square. -/
def unitSq : FVec Ideal S512x512 .f32 :=
  select (cmpi .eq lag zeros) (broadcastInDim S512x512 ![] bcast_S_S512x512 (constant S_ .f32 0x3F800000#32))
    (broadcastInDim S512x512 ![] bcast_S_S512x512 (constant S_ .f32 0x00000000#32))

/-- The ten pieces the host stacks: slabs of 128 rows of the weights and of the identity in turn, the last row of the
weights, and rows of zeros. -/
def parts : List ((s : Shape) × (s.Idx → EReal)) :=
  [⟨S128x512, extractStridedSlice S128x512 ![0, 0] weights slices_S512x512_S128x512_0_0⟩,
   ⟨S128x512, extractStridedSlice S128x512 ![0, 0] unitSq slices_S512x512_S128x512_0_0⟩,
   ⟨S128x512, extractStridedSlice S128x512 ![128, 0] weights slices_S512x512_S128x512_128_0⟩,
   ⟨S128x512, extractStridedSlice S128x512 ![128, 0] unitSq slices_S512x512_S128x512_128_0⟩,
   ⟨S128x512, extractStridedSlice S128x512 ![256, 0] weights slices_S512x512_S128x512_256_0⟩,
   ⟨S128x512, extractStridedSlice S128x512 ![256, 0] unitSq slices_S512x512_S128x512_256_0⟩,
   ⟨S128x512, extractStridedSlice S128x512 ![384, 0] weights slices_S512x512_S128x512_384_0⟩,
   ⟨S128x512, extractStridedSlice S128x512 ![384, 0] unitSq slices_S512x512_S128x512_384_0⟩,
   ⟨S1x512, extractStridedSlice S1x512 ![511, 0] weights slices_S512x512_S1x512_511_0⟩,
   ⟨S7x512, broadcastInDim S7x512 ![] bcast_S_S7x512 (constant (F := Ideal) S_ .f32 0x00000000#32)⟩]

/-- The pieces one under another. -/
def stack : FVec Ideal S1032x512 .f32 :=
  concatenate S1032x512 0 parts
    concatenates_S128x512_S128x512_S128x512_S128x512_S128x512_S128x512_S128x512_S128x512_S1x512_S7x512_S1032x512_d0

/-- The stack turned, so that a column holds a row of a piece. -/
def stacked : FVec Ideal S512x1032 .f32 := transpose S512x1032 [1, 0] stack transposes_S1032x512_S512x1032_1_0

/-- The powers of the decay, one for each output step of a block. -/
def decays : FVec Ideal S512 .f32 :=
  Host.powf (broadcastInDim S512 ![] bcast_S_S512 keep)
    (sitofp .f32 (addi (iotaInDim S512 32 0) (broadcastInDim S512 ![] bcast_S_S512 (constantI S_ 32 1#32))))

/-- The powers of the decay, repeated along the channels. -/
def decayTab : FVec Ideal S512x128 .f32 :=
  shapeCast S512x128
    (broadcastInDim S1x512x128x1 ![0, 1, 2, 3] bcast_S1x512x1x1_S1x512x128x1_0_1_2_3
      (shapeCast S1x512x1x1 (broadcastInDim S512x1 ![0] bcast_S512_S512x1_0 decays) shapeCasts_S512x1_S1x512x1x1))
    shapeCasts_S1x512x128x1_S512x128

/-- The table the kernel multiplies with is the stack. -/
theorem V_table (m : (ℓ : Loc nD τ sig) → Buf (Elt Ideal) ℓ) (c : Dev nD) :
    V m c main_v45 = truncf .bf16 stacked bitsLt_bf16_f32 := by
  unfold_abbrev_sides
  after_reads_simp
  rfl

/-- The table of decays the kernel reads is `decayTab`. -/
theorem V_decay (m : (ℓ : Loc nD τ sig) → Buf (Elt Ideal) ℓ) (c : Dev nD) :
    V m c main_v44 = decayTab := by
  unfold_abbrev_sides
  after_reads_simp
  rfl

end Cert.KernelIdeal.Hand

end
-- ==== Proof.Scalars.lean ====
/- Facts about single numbers that both programs need: the coefficient, and the laws of exponentials and logarithms. -/
module

public import Idealize.ShloMosaic.Lib.IdealHost
public import Mathlib.Data.EReal.Inv
public import Mathlib.Analysis.SpecialFunctions.Pow.Real

@[expose] public section

noncomputable section

namespace Cert.Pcen

open Idealize.ShloMosaic

/-- The smoothing coefficient, a real number. -/
def sR : ℝ := (Real.sqrt 262145 - 1) / 131072

/-- What is kept of the smoothed value from one step to the next. -/
def cR : ℝ := 1 - sR

/-- The coefficient is not negative. -/
theorem sR_nonneg : 0 ≤ sR := by
  have h : (1 : ℝ) ≤ Real.sqrt 262145 := by rw [Real.one_le_sqrt]; norm_num
  unfold sR; apply div_nonneg <;> linarith

/-- What is kept is not negative. -/
theorem cR_nonneg : 0 ≤ cR := by
  have h : Real.sqrt 262145 ≤ 131072 := by rw [Real.sqrt_le_left (by norm_num)]; norm_num
  unfold cR sR
  rw [sub_nonneg, div_le_one (by norm_num)]; linarith

/-- What the word of the number under the root denotes. -/
theorem word_root : Ideal.ofBits .f32 0x48800020#32 = ((262145 : ℝ) : EReal) := by
  simp [Ideal.ofBits, Ideal.ieee, -EReal.coe_mul]; norm_num

/-- What the word of the divisor denotes. -/
theorem word_divisor : Ideal.ofBits .f32 0x48000000#32 = ((131072 : ℝ) : EReal) := by
  simp [Ideal.ofBits, Ideal.ieee, -EReal.coe_mul]; norm_num

/-- What the word of the small offset denotes: a positive real. -/
theorem word_eps : ∃ e : ℝ, 0 < e ∧ Ideal.ofBits .f32 0x3727C5AC#32 = (e : EReal) := by
  refine ⟨_, ?_, by simp [Ideal.ofBits, Ideal.ieee, -EReal.coe_mul]; rfl⟩
  positivity

/-- The host's computation of the coefficient gives `sR`. -/
theorem coef_eq :
    Ideal.div (Ideal.sqrt (Ideal.ofBits .f32 0x48800020#32) - Ideal.ofBits .f32 0x3F800000#32) (Ideal.ofBits .f32 0x48000000#32)
      = (sR : EReal) := by
  rw [word_root, word_divisor, Ideal.ofBits_one_f32]
  have h1 : Ideal.sqrt ((262145 : ℝ) : EReal) = (Real.sqrt 262145 : EReal) := by
    show (if (262145 : ℝ) < 0 then ⊥ else (Real.sqrt 262145 : EReal)) = _
    rw [if_neg (by norm_num)]
  have h2 : (((131072 : ℝ) : ℝ) : EReal) ≠ 0 := by norm_cast
  rw [h1, Ideal.div, if_neg h2, ← EReal.coe_one, ← EReal.coe_sub, ← EReal.coe_inv, ← EReal.coe_mul]
  rfl

/-- One less the coefficient is `cR`. -/
theorem keep_eq : Ideal.ofBits .f32 0x3F800000#32 - (sR : EReal) = (cR : EReal) := by
  rw [Ideal.ofBits_one_f32, ← EReal.coe_one, ← EReal.coe_sub]; rfl

/-- A whole power, taken as a power of real numbers. -/
theorem pow_nat (x : ℝ) (k : ℕ) : Ideal.pow (x : EReal) ((k : ℝ) : EReal) = ((x ^ k : ℝ) : EReal) := by
  show ((Real.rpow x k : ℝ) : EReal) = _
  rw [Real.rpow_eq_pow, Real.rpow_natCast]

/-- The exponential is never negative. -/
theorem exp_nonneg (x : EReal) : 0 ≤ Ideal.exp x := by
  induction x with
  | bot => exact le_refl _
  | top => exact le_top
  | coe r => exact EReal.coe_nonneg.mpr (Real.exp_pos r).le

/-- Two to the power of a number over the logarithm of two is its exponential. -/
theorem exp2_scaled (x : EReal) : Ideal.exp2 (x * (((Real.log 2)⁻¹ : ℝ) : EReal)) = Ideal.exp x := by
  have h2 : 0 < Real.log 2 := Real.log_pos one_lt_two
  induction x with
  | bot => rw [EReal.bot_mul_coe_of_pos (inv_pos.mpr h2)]; rfl
  | top => rw [EReal.top_mul_coe_of_pos (inv_pos.mpr h2)]; rfl
  | coe r =>
    rw [← EReal.coe_mul]
    show ((Real.rpow 2 (r * (Real.log 2)⁻¹) : ℝ) : EReal) = (Real.exp r : EReal)
    rw [Real.rpow_eq_pow, Real.rpow_def_of_pos two_pos, mul_comm r, mul_inv_cancel_left₀ h2.ne']

/-- The logarithm undoes the exponential. -/
theorem log_exp (x : EReal) : Ideal.log (Ideal.exp x) = x := by
  induction x with
  | bot => show (if (0 : ℝ) ≤ 0 then (⊥ : EReal) else _) = ⊥; rw [if_pos le_rfl]
  | top => rfl
  | coe r =>
    show (if Real.exp r ≤ 0 then (⊥ : EReal) else (Real.log (Real.exp r) : EReal)) = r
    rw [if_neg (not_le.mpr (Real.exp_pos r)), Real.log_exp]

/-- The logarithm of a sum, split at one of its terms. -/
theorem log_split (e : ℝ) (he : 0 < e) (x : EReal) (hx : 0 ≤ x) :
    Ideal.log (e : EReal) + Ideal.log1p (Ideal.div x e) = Ideal.log ((e : EReal) + x) := by
  have hl : Ideal.log (e : EReal) = (Real.log e : EReal) := by
    show (if e ≤ 0 then (⊥ : EReal) else (Real.log e : EReal)) = _
    rw [if_neg (not_le.mpr he)]
  have hd : Ideal.div x e = x * ((e⁻¹ : ℝ) : EReal) := by
    rw [Ideal.div, if_neg (by exact_mod_cast he.ne'), EReal.coe_inv]
  rw [hl, hd, Ideal.log1p]
  induction x with
  | bot => exact absurd hx (by simp)
  | top =>
    rw [EReal.top_mul_coe_of_pos (inv_pos.mpr he), EReal.coe_add_top, ← EReal.coe_one, EReal.coe_add_top]
    exact EReal.coe_add_top _
  | coe r =>
    have hr : 0 ≤ r := EReal.coe_nonneg.mp hx
    rw [← EReal.coe_mul, ← EReal.coe_one, ← EReal.coe_add, ← EReal.coe_add]
    have h1 : 0 < 1 + r * e⁻¹ := by positivity
    have h2 : 0 < e + r := by positivity
    show (Real.log e : EReal) + (if 1 + r * e⁻¹ ≤ 0 then (⊥ : EReal) else (Real.log (1 + r * e⁻¹) : EReal))
      = if e + r ≤ 0 then (⊥ : EReal) else (Real.log (e + r) : EReal)
    rw [if_neg (not_le.mpr h1), if_neg (not_le.mpr h2), ← EReal.coe_add, ← Real.log_mul he.ne' h1.ne']
    congr 2
    field_simp

/-- A power of a base that is not negative, to an exponent that is not negative, by exponential and logarithm. -/
theorem pow_eq (b y : EReal) (hb : 0 ≤ b) (hy : 0 ≤ y) : Ideal.pow b y = Ideal.exp (y * Ideal.log b) := by
  induction b with
  | bot => exact absurd hb (by simp)
  | top =>
    show (if 0 < y then (⊤ : EReal) else if y = 0 then 1 else 0) = Ideal.exp (y * ⊤)
    by_cases h : 0 < y
    · rw [if_pos h, EReal.mul_top_of_pos h]; rfl
    · have h0 : y = 0 := le_antisymm (not_lt.mp h) hy
      rw [if_neg h, if_pos h0, h0, zero_mul]
      show (1 : EReal) = ((Real.exp 0 : ℝ) : EReal)
      rw [Real.exp_zero]; rfl
  | coe x =>
    have hx : 0 ≤ x := EReal.coe_nonneg.mp hb
    show _ = Ideal.exp (y * (if x ≤ 0 then (⊥ : EReal) else (Real.log x : EReal)))
    induction y with
    | bot => exact absurd hy (by simp)
    | top =>
      show (if x < 0 then (⊥ : EReal) else if 1 < x then ⊤ else if x = 1 then 1 else 0) = _
      rw [if_neg (not_lt.mpr hx)]
      rcases lt_trichotomy x 1 with h | h | h
      · rw [if_neg (not_lt.mpr h.le), if_neg h.ne]
        by_cases h0 : x ≤ 0
        · rw [if_pos h0]; rfl
        · rw [if_neg h0, EReal.top_mul_coe_of_neg (Real.log_neg (not_le.mp h0) h)]; rfl
      · subst h
        rw [if_neg (lt_irrefl _), if_pos rfl, if_neg (by norm_num), Real.log_one, EReal.coe_zero, mul_zero]
        show (1 : EReal) = ((Real.exp 0 : ℝ) : EReal)
        rw [Real.exp_zero]; rfl
      · rw [if_pos h, if_neg (by linarith), EReal.top_mul_coe_of_pos (Real.log_pos h)]; rfl
    | coe r =>
      have hr : 0 ≤ r := EReal.coe_nonneg.mp hy
      show ((Real.rpow x r : ℝ) : EReal) = _
      rw [Real.rpow_eq_pow]
      rcases hx.lt_or_eq with h | h
      · rw [if_neg (not_le.mpr h), ← EReal.coe_mul, Real.rpow_def_of_pos h, mul_comm]; rfl
      · subst h
        rw [if_pos le_rfl]
        rcases hr.lt_or_eq with h' | h'
        · rw [EReal.coe_mul_bot_of_pos h', Real.zero_rpow h'.ne']; rfl
        · subst h'
          rw [EReal.coe_zero, zero_mul, Real.rpow_zero]
          show _ = ((Real.exp 0 : ℝ) : EReal)
          rw [Real.exp_zero]

end Cert.Pcen

end
-- ==== Proof.Smoother.lean ====
/- The smoother as a recurrence, and its sum over a stretch of steps. -/
module

public import proofs.«01_k».proof.Proof.Scalars
public import Mathlib.Algebra.BigOperators.Fin

@[expose] public section

noncomputable section

namespace Cert.Pcen

open Idealize.ShloMosaic

/-- A factor that is not negative goes into a sum of terms that are not negative. -/
theorem mul_sum_nonneg {ι : Type} (c : EReal) (S : Finset ι) (f : ι → EReal) (hf : ∀ i, 0 ≤ f i) :
    c * ∑ i ∈ S, f i = ∑ i ∈ S, c * f i := by
  classical
  induction S using Finset.induction_on with
  | empty => simp
  | insert a S ha ih =>
    rw [Finset.sum_insert ha, Finset.sum_insert ha, EReal.left_distrib_of_nonneg (hf a) (Finset.sum_nonneg fun i _ => hf i), ih]

/-- The smoothed value before step `n`: it starts at the first input, and each step keeps a part and adds a part of the input. -/
def smooth (x : ℕ → EReal) : ℕ → EReal
  | 0 => x 0
  | n + 1 => (sR : EReal) * x n + (cR : EReal) * smooth x n

/-- The weight of the input `d` steps back. -/
def weight (d : ℕ) : EReal := ((sR * cR ^ d : ℝ) : EReal)

theorem weight_nonneg (d : ℕ) : 0 ≤ weight d :=
  EReal.coe_nonneg.mpr (mul_nonneg sR_nonneg (pow_nonneg cR_nonneg d))

theorem keep_nonneg (d : ℕ) : 0 ≤ ((cR ^ d : ℝ) : EReal) := EReal.coe_nonneg.mpr (pow_nonneg cR_nonneg d)

/-- The smoothed value of inputs that are not negative is not negative. -/
theorem smooth_nonneg (x : ℕ → EReal) (hx : ∀ k, 0 ≤ x k) : ∀ n, 0 ≤ smooth x n
  | 0 => hx 0
  | n + 1 => add_nonneg (mul_nonneg (EReal.coe_nonneg.mpr sR_nonneg) (hx n))
      (mul_nonneg (EReal.coe_nonneg.mpr cR_nonneg) (smooth_nonneg x hx n))

/-- After `L` steps from `a`: the weighted inputs of the stretch, and the kept part of the value at `a`. -/
theorem smooth_stretch (x : ℕ → EReal) (hx : ∀ k, 0 ≤ x k) (a L : ℕ) :
    smooth x (a + L) = (∑ k ∈ Finset.range L, weight (L - 1 - k) * x (a + k)) + ((cR ^ L : ℝ) : EReal) * smooth x a := by
  induction L with
  | zero => simp
  | succ L ih =>
    show (sR : EReal) * x (a + L) + (cR : EReal) * smooth x (a + L) = _
    have hs : ∀ k, 0 ≤ weight (L - 1 - k) * x (a + k) := fun k => mul_nonneg (weight_nonneg _) (hx _)
    rw [ih, EReal.left_distrib_of_nonneg (Finset.sum_nonneg fun k _ => hs k) (mul_nonneg (keep_nonneg L) (smooth_nonneg x hx a)),
      mul_sum_nonneg _ _ _ hs, Finset.sum_range_succ, ← add_assoc, ← mul_assoc, ← EReal.coe_mul, ← pow_succ']
    congr 1
    rw [add_comm]
    congr 1
    · refine Finset.sum_congr rfl fun k hk => ?_
      have hk' := Finset.mem_range.mp hk
      rw [← mul_assoc, weight, weight, ← EReal.coe_mul, show L + 1 - 1 - k = (L - 1 - k) + 1 by omega, pow_succ]
      congr 2
      ring
    · rw [weight, show L + 1 - 1 - L = 0 by omega, pow_zero, mul_one]

/-- The same, the stretch being the steps up to `t` of a block of `N` steps that starts at `a`. -/
theorem smooth_block (x : ℕ → EReal) (hx : ∀ k, 0 ≤ x k) (N a t : ℕ) (ht : t < N) :
    (∑ k : Fin N, (if k.val ≤ t then weight (t - k.val) else 0) * x (a + k.val)) + ((cR ^ (t + 1) : ℝ) : EReal) * smooth x a
      = smooth x (a + (t + 1)) := by
  rw [smooth_stretch x hx a (t + 1)]
  congr 1
  rw [Fin.sum_univ_eq_sum_range (fun k => (if k ≤ t then weight (t - k) else 0) * x (a + k)) N]
  refine (Finset.sum_subset (Finset.range_mono (show t + 1 ≤ N from ht)) fun k _ hk => ?_).symm.trans
    (Finset.sum_congr rfl fun k hk => ?_)
  · rw [if_neg (by have := Finset.mem_range.not.mp hk; omega), zero_mul]
  · rw [if_pos (by have := Finset.mem_range.mp hk; omega)]
    rfl

/-- The smoothed value as one sum over all steps, the coefficient taken out and the first input's share apart. -/
theorem smooth_whole (x : ℕ → EReal) (hx : ∀ k, 0 ≤ x k) (N t : ℕ) (ht : t < N) :
    (∑ k : Fin N, x k.val * (if k.val ≤ t then ((cR ^ (t - k.val) : ℝ) : EReal) else 0)) * (sR : EReal)
        + ((cR : EReal) * x 0) * ((cR ^ t : ℝ) : EReal)
      = smooth x (t + 1) := by
  have h := smooth_block x hx N 0 t ht
  rw [Nat.zero_add] at h
  rw [← h, mul_comm _ (sR : EReal), mul_sum_nonneg _ _ _ fun k => mul_nonneg (hx _) (by split_ifs; exacts [keep_nonneg _, le_rfl])]
  congr 1
  · refine Finset.sum_congr rfl fun k _ => ?_
    rw [Nat.zero_add, mul_comm (x k.val), ← mul_assoc]
    congr 1
    by_cases hk : k.val ≤ t
    · rw [if_pos hk, if_pos hk, weight, EReal.coe_mul]
    · rw [if_neg hk, if_neg hk, mul_zero]
  · show _ = _ * x 0
    rw [mul_right_comm, ← EReal.coe_mul, ← pow_succ']

end Cert.Pcen

end
-- ==== Proof.TableValues.lean ====
/- The numbers the host's tables hold. -/
module

public import proofs.«01_k».proof.Proof.Tables
public import proofs.«01_k».proof.Proof.Smoother
public import Idealize.ShloMosaic.Lib.WordCmp

@[expose] public section

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Cert.Pcen (sR cR weight)
open Idealize.ShloMosaic.WordCmp

/-- The coefficient's one entry. -/
theorem coef_apply (i : S_.Idx) : coef i = (sR : EReal) := Cert.Pcen.coef_eq

/-- The one entry of what is kept. -/
theorem keep_apply (i : S_.Idx) : keep i = (cR : EReal) := by
  show Ideal.ofBits .f32 0x3F800000#32 - coef i = _
  rw [coef_apply, Cert.Pcen.keep_eq]

/-- The lag of a row and a column is the difference of their words. -/
theorem lag_apply (t k : Fin 512) : lag (ix2 t k) = BitVec.ofNat 32 t.val - BitVec.ofNat 32 k.val := by
  unfold lag
  show _ - _ = _
  rw [broadcastInDim_apply _ bcast_S512x1_S512x512_0_1 _ (ix2 t k) (ix2 t 0) (fun a => match a with | ⟨0, _⟩ => rfl | ⟨1, _⟩ => rfl),
    broadcastInDim_apply _ bcast_S512_S512x1_0 _ (ix2 t 0) (ix1 t) (fun a => match a with | ⟨0, _⟩ => rfl),
    broadcastInDim_apply _ bcast_S1x512_S512x512_0_1 _ (ix2 t k) (ix2 0 k) (fun a => match a with | ⟨0, _⟩ => rfl | ⟨1, _⟩ => rfl),
    broadcastInDim_apply _ bcast_S512_S1x512_1 _ (ix2 0 k) (ix1 k) (fun a => match a with | ⟨0, _⟩ => rfl)]
  rfl

/-- On and below the diagonal the lag is the word of the difference. -/
theorem lag_le (t k : Fin 512) (h : k.val ≤ t.val) : lag (ix2 t k) = BitVec.ofNat 32 (t.val - k.val) := by
  rw [lag_apply]
  refine BitVec.eq_of_toNat_eq ?_
  simp only [BitVec.toNat_sub, BitVec.toNat_ofNat]
  omega

/-- The number of a small word. -/
theorem word_toInt (d : ℕ) (h : d < 2 ^ 31) : (BitVec.ofNat 32 d).toInt = (d : ℤ) := by
  rw [toInt_eq_toNat_of_lt_half] <;> simp only [BitVec.toNat_ofNat] <;> omega

/-- The larger of a small word and zero is the word. -/
theorem word_max (d : ℕ) (h : d < 2 ^ 31) : IntOp.maxsi (BitVec.ofNat 32 d) 0#32 = BitVec.ofNat 32 d := by
  unfold IntOp.maxsi
  split
  · rfl
  · rename_i hs
    have h0 : ¬(0 : ℤ) < d := by
      intro hd
      apply hs
      simp only [BitVec.slt, word_toInt d h]
      exact decide_eq_true hd
    have : d = 0 := by omega
    subst this; rfl

/-- The square of zero words holds zero. -/
theorem zeros_apply (i : S512x512.Idx) : zeros i = 0#32 := broadcastInDim_scalar_apply _ _ _

/-- The weight of column `k` for row `t`. -/
theorem weights_apply (t k : Fin 512) : weights (ix2 t k) = if k.val ≤ t.val then weight (t.val - k.val) else 0 := by
  unfold weights
  rw [select_apply]
  show Scalar.select (IntOp.cmpi .sge (lag (ix2 t k)) (zeros (ix2 t k)))
    (broadcastInDim S512x512 ![] bcast_S_S512x512 coef (ix2 t k)
      * Ideal.pow (broadcastInDim S512x512 ![] bcast_S_S512x512 keep (ix2 t k)) (((IntOp.maxsi (lag (ix2 t k)) (zeros (ix2 t k))).toInt : ℝ) : EReal))
    (broadcastInDim S512x512 ![] bcast_S_S512x512 (constant S_ .f32 0x00000000#32) (ix2 t k)) = _
  rw [zeros_apply, cmpi_sge_zero, broadcastInDim_scalar_apply, broadcastInDim_scalar_apply, broadcastInDim_scalar_apply, coef_apply, keep_apply]
  by_cases h : k.val ≤ t.val
  · rw [if_pos h, lag_le t k h, word_max _ (by omega), word_toInt _ (by omega), select_of_eq_one, Int.cast_natCast, Cert.Pcen.pow_nat,
      ← EReal.coe_mul]
    · rfl
    · rw [decide_eq_true (by simp only [BitVec.toNat_ofNat]; omega)]; rfl
  · rw [if_neg h, select_of_eq_zero]
    · exact Ideal.ofBits_zero_f32
    · rw [lag_apply, decide_eq_false (by simp only [BitVec.toNat_sub, BitVec.toNat_ofNat]; omega)]; rfl

/-- The identity square's entry. -/
theorem unitSq_apply (t k : Fin 512) : unitSq (ix2 t k) = if k = t then 1 else 0 := by
  unfold unitSq
  rw [select_apply]
  show Scalar.select (IntOp.cmpi .eq (lag (ix2 t k)) (zeros (ix2 t k))) _ _ = _
  rw [zeros_apply, cmpi_eq_eq, lag_apply, broadcastInDim_scalar_apply, broadcastInDim_scalar_apply]
  by_cases h : k = t
  · subst h
    rw [if_pos rfl, select_of_eq_one]
    · exact Ideal.ofBits_one_f32
    · rw [decide_eq_true (BitVec.sub_self _)]; rfl
  · rw [if_neg h, select_of_eq_zero]
    · exact Ideal.ofBits_zero_f32
    · rw [decide_eq_false]
      · rfl
      · intro e
        apply h
        have e' := congrArg BitVec.toNat e
        simp only [BitVec.toNat_sub, BitVec.toNat_ofNat] at e'
        exact Fin.ext (by omega)

/-- A slab of rows read at a row. -/
theorem slab_apply (R o : ℕ) (w : FVec Ideal S512x512 .f32) (h : S512x512.Slices ![o, 0] ⟨2, ![R, 512]⟩) (r : Fin R) (k t : Fin 512)
    (ht : t.val = o + r.val) : extractStridedSlice ⟨2, ![R, 512]⟩ ![o, 0] w h (ix2 r k) = w (ix2 t k) :=
  extractStridedSlice_apply ![o, 0] w h (ix2 r k) (ix2 t k)
    (fun a => match a with | ⟨0, _⟩ => ht | ⟨1, _⟩ => (Nat.zero_add _).symm)

/-- A row of the stack that lies in a piece is that piece's row. -/
theorem stack_apply (q : ℕ) (hq : q < parts.length) (R : ℕ) (x : (⟨2, ![R, 512]⟩ : Shape).Idx → EReal)
    (hx : parts[q] = ⟨⟨2, ![R, 512]⟩, x⟩) (pre : ℕ)
    (hpre : (((parts.take q).map (·.1)).map fun s => if h : s.rank = S1032x512.rank then s.size ((0 : Fin 2).cast h.symm) else 0).sum = pre)
    (r : Fin R) (k : Fin 512) (j : Fin 1032) (hj : j.val = pre + r.val) : stack (ix2 j k) = x (ix2 r k) :=
  concatenate_apply_piece 0 parts _ (ix2 j k) q hq _ x hx rfl pre hpre (ix2 r k)
    (fun b hb => match b with | ⟨0, _⟩ => absurd rfl hb | ⟨1, _⟩ => rfl) hj.symm

/-- Every other piece of the stack is a slab of the weights. -/
theorem stack_weights (i : Fin 4) (r : Fin 128) (k t : Fin 512) (j : Fin 1032) (ht : t.val = 128 * i.val + r.val)
    (hj : j.val = 256 * i.val + r.val) : stack (ix2 j k) = weights (ix2 t k) := by
  match i, ht, hj with
  | 0, ht, hj => exact (stack_apply 0 (by decide) 128 _ rfl 0 rfl r k j hj).trans (slab_apply 128 _ _ _ r k t ht)
  | 1, ht, hj => exact (stack_apply 2 (by decide) 128 _ rfl 256 rfl r k j hj).trans (slab_apply 128 _ _ _ r k t ht)
  | 2, ht, hj => exact (stack_apply 4 (by decide) 128 _ rfl 512 rfl r k j hj).trans (slab_apply 128 _ _ _ r k t ht)
  | 3, ht, hj => exact (stack_apply 6 (by decide) 128 _ rfl 768 rfl r k j hj).trans (slab_apply 128 _ _ _ r k t ht)

/-- The pieces between them are the slabs of the identity. -/
theorem stack_unit (i : Fin 4) (r : Fin 128) (k t : Fin 512) (j : Fin 1032) (ht : t.val = 128 * i.val + r.val)
    (hj : j.val = 256 * i.val + 128 + r.val) : stack (ix2 j k) = unitSq (ix2 t k) := by
  match i, ht, hj with
  | 0, ht, hj => exact (stack_apply 1 (by decide) 128 _ rfl 128 rfl r k j hj).trans (slab_apply 128 _ _ _ r k t ht)
  | 1, ht, hj => exact (stack_apply 3 (by decide) 128 _ rfl 384 rfl r k j hj).trans (slab_apply 128 _ _ _ r k t ht)
  | 2, ht, hj => exact (stack_apply 5 (by decide) 128 _ rfl 640 rfl r k j hj).trans (slab_apply 128 _ _ _ r k t ht)
  | 3, ht, hj => exact (stack_apply 7 (by decide) 128 _ rfl 896 rfl r k j hj).trans (slab_apply 128 _ _ _ r k t ht)

/-- The pieces before the last row are of 1024 rows together. -/
theorem parts_before : (((parts.take 8).map (·.1)).map
    fun s => if h : s.rank = S1032x512.rank then s.size ((0 : Fin 2).cast h.symm) else 0).sum = 1024 := by
  simp only [parts, List.take_succ_cons, List.take_zero, List.map_cons, List.map_nil]
  decide

/-- The last piece but one is the weights' last row. -/
theorem stack_last (k : Fin 512) : stack (ix2 ccol k) = weights (ix2 ⟨511, by omega⟩ k) := by
  have hx : parts[8]'(by decide) = ⟨S1x512, extractStridedSlice S1x512 ![511, 0] weights slices_S512x512_S1x512_511_0⟩ := rfl
  have h := stack_apply 8 (by decide) 1 _ hx 1024 parts_before 0 k ccol (by unfold ccol; rfl)
  exact h.trans (slab_apply 1 511 weights slices_S512x512_S1x512_511_0 0 k ⟨511, by omega⟩ rfl)

/-- A column of the table that holds weights. -/
theorem stacked_apply (k : Fin 512) (j : Fin 1032) : stacked (ix2 k j) = stack (ix2 j k) :=
  transpose_apply [1, 0] _ transposes_S1032x512_S512x1032_1_0 (ix2 k j) (ix2 j k) (fun b => match b with | ⟨0, _⟩ => rfl | ⟨1, _⟩ => rfl)

/-- The table's column for the smoothed value of step `t` holds the weights of that step. -/
theorem table_weights (k t : Fin 512) : stacked (ix2 k (wcol t)) = if k.val ≤ t.val then weight (t.val - k.val) else 0 := by
  rw [stacked_apply, stack_weights ⟨t.val / 128, by omega⟩ ⟨t.val % 128, by omega⟩ k t (wcol t) (by show t.val = 128 * (t.val / 128) + t.val % 128; omega) rfl,
    weights_apply]

/-- The table's column for the input of step `t` picks that input out. -/
theorem table_unit (k t : Fin 512) : stacked (ix2 k (icol t)) = if k = t then 1 else 0 := by
  rw [stacked_apply, stack_unit ⟨t.val / 128, by omega⟩ ⟨t.val % 128, by omega⟩ k t (icol t) (by show t.val = 128 * (t.val / 128) + t.val % 128; omega)
    (by show 256 * (t.val / 128) + (128 + t.val % 128) = 256 * (t.val / 128) + 128 + t.val % 128; omega), unitSq_apply]

/-- The table's column for the carried row holds the weights of a block's last step. -/
theorem table_carry (k : Fin 512) : stacked (ix2 k ccol) = if k.val ≤ 511 then weight (511 - k.val) else 0 := by
  rw [stacked_apply, stack_last, weights_apply]

/-- The decay's power for step `t`. -/
theorem decays_apply (t : Fin 512) : decays (ix1 t) = ((cR ^ (t.val + 1) : ℝ) : EReal) := by
  unfold decays
  show Ideal.pow (broadcastInDim S512 ![] bcast_S_S512 keep (ix1 t))
    (((IntOp.addi (BitVec.ofNat 32 t.val) (broadcastInDim S512 ![] bcast_S_S512 (constantI S_ 32 1#32) (ix1 t))).toInt : ℝ) : EReal) = _
  rw [broadcastInDim_scalar_apply, broadcastInDim_scalar_apply, keep_apply]
  show Ideal.pow _ (((IntOp.addi (BitVec.ofNat 32 t.val) (BitVec.ofNat 32 1)).toInt : ℝ) : EReal) = _
  rw [addi_ofNat, word_toInt _ (by omega), Int.cast_natCast, Cert.Pcen.pow_nat]

/-- The table of decays holds, for step `t` and every channel, the power of what is kept. -/
theorem decayTab_apply (t : Fin 512) (n : Fin 128) : decayTab (ix2 t n) = ((cR ^ (t.val + 1) : ℝ) : EReal) := by
  unfold decayTab
  rw [shapeCast_apply _ shapeCasts_S1x512x128x1_S512x128 (ix2 t n) (ix4 0 t n 0)
      (by rw [Shape.rowMajor_val_four, Shape.rowMajor_val_two]; show ((0 * 512 + t.val) * 128 + n.val) * 1 + 0 = t.val * 128 + n.val; omega),
    broadcastInDim_apply _ bcast_S1x512x1x1_S1x512x128x1_0_1_2_3 _ (ix4 0 t n 0) (ix4 0 t 0 0)
      (fun a => match a with | ⟨0, _⟩ => rfl | ⟨1, _⟩ => rfl | ⟨2, _⟩ => rfl | ⟨3, _⟩ => rfl),
    shapeCast_apply _ shapeCasts_S512x1_S1x512x1x1 (ix4 0 t 0 0) (ix2 t 0)
      (by rw [Shape.rowMajor_val_four, Shape.rowMajor_val_two]; show t.val * 1 + 0 = ((0 * 512 + t.val) * 1 + 0) * 1 + 0; omega),
    broadcastInDim_apply _ bcast_S512_S512x1_0 _ (ix2 t 0) (ix1 t) (fun a => match a with | ⟨0, _⟩ => rfl), decays_apply]

end Cert.KernelIdeal.Hand

end
-- ==== Proof.KernelValue.lean ====
/- What the kernel's result array holds, in terms of the arguments. -/
module

public import proofs.«01_k».proof.Proof.TableValues
public import proofs.«01_k».proof.Proof.Gen.KernelIdeal.Value

@[expose] public section

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem
open Cert.Pcen (sR cR weight smooth)

variable (m : (ℓ : Loc nD τ sig) → Buf (Elt Ideal) ℓ)

/-- The steps of batch row `b` and channel `n`, as a sequence. -/
def steps (x : Vec Ideal S16x1x128x2048 .f32) (b : Fin 16) (n : Fin 128) (k : ℕ) : EReal :=
  if h : k < 2048 then x (ix4 b 0 n ⟨k, h⟩) else 0

/-- Where the blocks lie: the input's block number is the point's, and the tables and parameters are one block. -/
theorem places : ∀ t : Fin grid0.N,
    (win0_0.index t (0 : Fin 4) = 0 ∧ win0_0.index t (1 : Fin 4) = 0 ∧ win0_0.index t (2 : Fin 4) = 0 ∧ win0_0.index t (3 : Fin 4) = t.val)
    ∧ (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) := by decide +kernel

/-- The input's block at a point. -/
theorem iblk_x (c : Dev nD) (p : ℕ) (h : p < cfg0.N) (b : Fin 16) (n : Fin 128) (k : Fin 512) :
    iblk m c 0 ⟨p, h⟩ (ix4 b 0 n k) = steps (m (c.tc.loc main_arg0)) b n (512 * p + k.val) := by
  have hN : p < 4 := lt_of_lt_of_eq h N_0
  obtain ⟨⟨e0, e1, e2, e3⟩, -⟩ := places ⟨p, h⟩
  unfold steps
  rw [dif_pos (by omega)]
  refine Eq.trans ?_ (congrFun (V_main_arg0 m c) _)
  refine congrArg (V m c main_arg0) (funext fun a => Fin.ext ?_)
  match a with
  | ⟨0, _⟩ => show win0_0.index ⟨p, h⟩ (0 : Fin 4) * 16 + 1 * b.val = b.val; rw [e0]; omega
  | ⟨1, _⟩ => show win0_0.index ⟨p, h⟩ (1 : Fin 4) * 1 + 1 * 0 = 0; rw [e1]
  | ⟨2, _⟩ => show win0_0.index ⟨p, h⟩ (2 : Fin 4) * 128 + 1 * n.val = n.val; rw [e2]; omega
  | ⟨3, _⟩ => show win0_0.index ⟨p, h⟩ (3 : Fin 4) * 512 + 1 * k.val = 512 * p + k.val; rw [e3]; show p * 512 + 1 * k.val = _; omega

/-- The table's block is the table. -/
theorem iblk_table (c : Dev nD) (p : ℕ) (h : p < cfg0.N) (k : Fin 512) (j : Fin 1032) :
    iblk m c 1 ⟨p, h⟩ (ix2 k j) = stacked (ix2 k j) := by
  obtain ⟨-, ⟨e0, e1⟩, -⟩ := places ⟨p, h⟩
  refine Eq.trans ?_ (congrFun (V_table m c) _)
  refine congrArg (V m c main_v45) (funext fun a => Fin.ext ?_)
  match a with
  | ⟨0, _⟩ => show win0_1.index ⟨p, h⟩ (0 : Fin 2) * 512 + 1 * k.val = k.val; rw [e0]; omega
  | ⟨1, _⟩ => show win0_1.index ⟨p, h⟩ (1 : Fin 2) * 1032 + 1 * j.val = j.val; rw [e1]; omega

/-- The block of the decays is the whole table of them. -/
theorem iblk_decay (c : Dev nD) (p : ℕ) (h : p < cfg0.N) (t : Fin 512) (n : Fin 128) :
    iblk m c 2 ⟨p, h⟩ (ix2 t n) = ((cR ^ (t.val + 1) : ℝ) : EReal) := by
  obtain ⟨-, -, ⟨e0, e1⟩, -⟩ := places ⟨p, h⟩
  refine Eq.trans ?_ ((congrFun (V_decay m c) _).trans (decayTab_apply t n))
  refine congrArg (V m c main_v44) (funext fun a => Fin.ext ?_)
  match a with
  | ⟨0, _⟩ => show win0_2.index ⟨p, h⟩ (0 : Fin 2) * 512 + 1 * t.val = t.val; rw [e0]; omega
  | ⟨1, _⟩ => show win0_2.index ⟨p, h⟩ (1 : Fin 2) * 128 + 1 * n.val = n.val; rw [e1]; omega

/-- The kernel's three parameter rows are the three arguments. -/
theorem V_params (c : Dev nD) :
    V m c main_v46 = shapeCast S1x128 (m (c.tc.loc main_arg1)) shapeCasts_S128_S1x128
    ∧ V m c main_v47 = shapeCast S1x128 (m (c.tc.loc main_arg2)) shapeCasts_S128_S1x128
    ∧ V m c main_v48 = shapeCast S1x128 (m (c.tc.loc main_arg3)) shapeCasts_S128_S1x128 := by
  refine ⟨?_, ?_, ?_⟩ <;>
  · unfold_abbrev_sides
    after_reads_simp
    rfl

/-- A parameter laid out as a row, read at a channel. -/
theorem row_apply (w : Vec Ideal S128 .f32) (n : Fin 128) : shapeCast S1x128 w shapeCasts_S128_S1x128 (ix2 0 n) = w (ix1 n) :=
  shapeCast_apply _ _ _ _ (by rw [Shape.rowMajor_val_one, Shape.rowMajor_val_two]; show n.val = 0 * 128 + n.val; omega)

set_option maxHeartbeats 1000000 in
/-- The parameters' blocks are the parameters. -/
theorem iblk_params (c : Dev nD) (p : ℕ) (h : p < cfg0.N) (n : Fin 128) :
    iblk m c 3 ⟨p, h⟩ (ix2 0 n) = m (c.tc.loc main_arg1) (ix1 n) ∧ iblk m c 4 ⟨p, h⟩ (ix2 0 n) = m (c.tc.loc main_arg2) (ix1 n)
      ∧ iblk m c 5 ⟨p, h⟩ (ix2 0 n) = m (c.tc.loc main_arg3) (ix1 n) := by
  obtain ⟨-, -, -, ⟨a0, a1⟩, ⟨d0, d1⟩, ⟨r0, r1⟩⟩ := places ⟨p, h⟩
  obtain ⟨v1, v2, v3⟩ := V_params m c
  refine ⟨?_, ?_, ?_⟩
  · refine Eq.trans ?_ ((congrFun v1 (ix2 0 n)).trans (row_apply _ n))
    refine congrArg (V m c main_v46) (funext fun a => Fin.ext ?_)
    match a with
    | ⟨0, _⟩ => show win0_3.index ⟨p, h⟩ (0 : Fin 2) * 1 + 1 * 0 = 0; rw [a0]
    | ⟨1, _⟩ => show win0_3.index ⟨p, h⟩ (1 : Fin 2) * 128 + 1 * n.val = n.val; rw [a1]; omega
  · refine Eq.trans ?_ ((congrFun v2 (ix2 0 n)).trans (row_apply _ n))
    refine congrArg (V m c main_v47) (funext fun a => Fin.ext ?_)
    match a with
    | ⟨0, _⟩ => show win0_4.index ⟨p, h⟩ (0 : Fin 2) * 1 + 1 * 0 = 0; rw [d0]
    | ⟨1, _⟩ => show win0_4.index ⟨p, h⟩ (1 : Fin 2) * 128 + 1 * n.val = n.val; rw [d1]; omega
  · refine Eq.trans ?_ ((congrFun v3 (ix2 0 n)).trans (row_apply _ n))
    refine congrArg (V m c main_v48) (funext fun a => Fin.ext ?_)
    match a with
    | ⟨0, _⟩ => show win0_5.index ⟨p, h⟩ (0 : Fin 2) * 1 + 1 * 0 = 0; rw [r0]
    | ⟨1, _⟩ => show win0_5.index ⟨p, h⟩ (1 : Fin 2) * 128 + 1 * n.val = n.val; rw [r1]; omega

/-- A column of weights against the input's block, when the column's entries are known. -/
theorem against_eq (c : Dev nD) (p : ℕ) (h : p < cfg0.N) (w : Fin 1032) (b : Fin 16) (n : Fin 128) (f : Fin 512 → EReal)
    (hf : ∀ k, stacked (ix2 k w) = f k) :
    against (iblk m c 0 ⟨p, h⟩) (iblk m c 1 ⟨p, h⟩) w b n
      = ∑ k : Fin 512, f k * steps (m (c.tc.loc main_arg0)) b n (512 * p + k.val) := by
  unfold against
  refine Finset.sum_congr rfl fun k _ => ?_
  rw [iblk_table, hf, iblk_x]

/-- The column of the identity picks one step out. -/
theorem against_icol (c : Dev nD) (p : ℕ) (h : p < cfg0.N) (t : Fin 512) (b : Fin 16) (n : Fin 128) :
    against (iblk m c 0 ⟨p, h⟩) (iblk m c 1 ⟨p, h⟩) (icol t) b n = steps (m (c.tc.loc main_arg0)) b n (512 * p + t.val) := by
  rw [against_eq m c p h (icol t) b n _ (fun k => table_unit k t), Finset.sum_eq_single t]
  · rw [if_pos rfl, one_mul]
  · intro k _ hk
    rw [if_neg hk, zero_mul]
  · intro ht
    exact absurd (Finset.mem_univ t) ht

/-- The row a point uses holds the smoothed values before its block. -/
theorem carryAt_eq (c : Dev nD) (b : Fin 16) (n : Fin 128) (hx : ∀ k, 0 ≤ steps (m (c.tc.loc main_arg0)) b n k) (p : ℕ) (h : p < cfg0.N) :
    carryAt m c p h (ix2 0 (place b n)) = smooth (steps (m (c.tc.loc main_arg0)) b n) (512 * p) := by
  induction p with
  | zero =>
    show carry0 (iblk m c 0 ⟨0, h⟩) _ (ix2 0 (place b n)) = _
    rw [carry0_apply, against_icol]
    rfl
  | succ p ih =>
    show carryNext (iblk m c 0 ⟨p, Nat.lt_of_succ_lt h⟩) _ _ _ (ix2 0 (place b n)) = _
    rw [carryNext_apply, ih, iblk_decay, against_eq m c p _ ccol b n _ table_carry]
    exact (Cert.Pcen.smooth_block _ hx 512 (512 * p) 511 (by omega)).trans (by rw [Nat.mul_succ])

/-- **The kernel's result**: at batch row `b`, step `T` and channel `n`, the compression of the smoothed value and the input. -/
theorem result_apply (c : Dev nD) (b : Fin 16) (T : Fin 2048) (n : Fin 128)
    (hx : ∀ k, 0 ≤ steps (m (c.tc.loc main_arg0)) b n k) :
    Cert.KernelIdeal.Value.G6 m c (ix4 b 0 T n)
      = finish (smooth (steps (m (c.tc.loc main_arg0)) b n) (T.val + 1)) (steps (m (c.tc.loc main_arg0)) b n T.val)
          (m (c.tc.loc main_arg1) (ix1 n)) (m (c.tc.loc main_arg2) (ix1 n)) (m (c.tc.loc main_arg3) (ix1 n)) := by
  have hp : Cert.KernelIdeal.Value.pt6Of (ix4 b 0 T n) = T.val / 512 := by
    show 4 * (b.val / 16 - 0) + 4 * (0 / 1 - 0) + 1 * (T.val / 512 - 0) + 1 * (n.val / 128 - 0) = _
    omega
  have hlt : T.val / 512 < cfg0.N := by rw [show cfg0.N = 4 from N_0]; omega
  have hl : Cert.KernelIdeal.Value.loc6Of (ix4 b 0 T n) = ix4 b 0 (⟨T.val % 512, by omega⟩ : Fin 512) n := by
    refine funext fun a => Fin.ext ?_
    match a with
    | ⟨0, _⟩ => show b.val % 16 = b.val; omega
    | ⟨1, _⟩ => rfl
    | ⟨2, _⟩ => rfl
    | ⟨3, _⟩ => show n.val % 128 = n.val; omega
  unfold Cert.KernelIdeal.Value.G6
  rw [dif_pos (by rw [hp]; exact hlt), hl]
  have hs := Cert.KernelIdeal.Value.outsAt0_sweep m c (Cert.KernelIdeal.Value.pt6Of (ix4 b 0 T n)) (by rw [hp]; exact hlt)
  rw [← hs]
  have ho := outsAt0_eq m c (T.val / 512) hlt
  rw [show outsAt0 m c (Cert.KernelIdeal.Value.pt6Of (ix4 b 0 T n)) (by rw [hp]; exact hlt) = outsAt0 m c (T.val / 512) hlt by
    congr 1, ho]
  show blockVal _ _ _ _ _ _ _ b ⟨T.val % 512, by omega⟩ n = _
  unfold blockVal
  obtain ⟨e1, e2, e3⟩ := iblk_params m c (T.val / 512) hlt n
  rw [e1, e2, e3, against_icol, carryAt_eq m c b n hx, iblk_decay, against_eq m c _ hlt _ b n _ (fun k => table_weights k _),
    Cert.Pcen.smooth_block _ hx 512 (512 * (T.val / 512)) (T.val % 512) (by omega)]
  rw [show 512 * (T.val / 512) + (T.val % 512 + 1) = T.val + 1 by omega,
    show 512 * (T.val / 512) + T.val % 512 = T.val by omega]

end Cert.KernelIdeal.Hand

end
-- ==== Proof.RefValue.lean ====
/- What the reference computes, entry by entry. -/
module

public import proofs.«01_k».proof.Proof.Smoother
public import proofs.«01_k».proof.Proof.Gen.ReferenceIdeal.Read
public import Idealize.ShloMosaic.Lib.WordCmp

@[expose] public section

set_option maxRecDepth 16384

noncomputable section

namespace Cert.ReferenceIdeal.Hand

open Cert.ReferenceIdeal Cert.ReferenceIdeal.Gen Cert.ReferenceIdeal.Read Idealize.ShloMosaic Idealize.ShloMosaic.ValueIdx Idealize.ShloMosaic.WordCmp
open Cert.Pcen (sR cR smooth)

/-- The compression of a smoothed value `s` and an input `x`, as the problem states it: gain, bias and root by powers. -/
def pcen (s x a d r : EReal) : EReal :=
  Ideal.pow (x * Ideal.exp (-Ideal.exp a * (Ideal.log (Ideal.ofBits .f32 0x3727C5AC#32) + Ideal.log1p (Ideal.div s (Ideal.ofBits .f32 0x3727C5AC#32))))
      + Ideal.exp d) (Ideal.exp r)
    - Ideal.pow (Ideal.exp d) (Ideal.exp r)

/-- The coefficient. -/
theorem coef_apply (i : S_.Idx) : val_main_v2 (F := Ideal) i = (sR : EReal) := Cert.Pcen.coef_eq

/-- What is kept, where the powers are taken. -/
theorem keep_apply (i : S_.Idx) : val_main_v9 (F := Ideal) i = (cR : EReal) := by
  rw [val_main_v9_apply, coef_apply]; exact Cert.Pcen.keep_eq

/-- What is kept, where the first input's share is taken. -/
theorem keep_apply' (i : S_.Idx) : val_main_v24 (F := Ideal) i = (cR : EReal) := by
  rw [val_main_v24_apply, coef_apply]; exact Cert.Pcen.keep_eq

/-- The number of a small word. -/
theorem word_toInt (k : ℕ) (hk : k < 2048) : (BitVec.ofNat 32 k).toInt = (k : ℤ) := by
  rw [toInt_eq_toNat_of_lt_half (by simp only [BitVec.toNat_ofNat]; omega), BitVec.toNat_ofNat, Nat.mod_eq_of_lt (by omega)]

/-- A small word with the word of minus one added is the number before it. -/
theorem word_pred (k : ℕ) (hk : k < 2048) : (IntOp.addi (BitVec.ofNat 32 k) 4294967295#32).toInt = (k : ℤ) - 1 := by
  have h : (4294967295#32).toInt = -1 := by decide
  unfold IntOp.addi
  rw [BitVec.toInt_add, word_toInt k hk, h, Int.bmod_def]
  omega

/-- The list of powers. -/
theorem powers_apply (q : Fin 2049) : val_main_v13 (F := Ideal) (ix1 q) = ((cR ^ q.val : ℝ) : EReal) := by
  rw [val_main_v13_apply, val_main_v12_apply, val_main_v11_apply, keep_apply]
  show Ideal.pow _ (((BitVec.ofNat 32 q.val).toInt : ℝ) : EReal) = _
  rw [toInt_eq_toNat_of_lt_half (by simp only [BitVec.toNat_ofNat]; omega), BitVec.toNat_ofNat, Nat.mod_eq_of_lt (by omega),
    Int.cast_natCast, Cert.Pcen.pow_nat]

/-- The list repeated and cut into rows one shorter: the entry at a place is the power of the place's number modulo the list's length. -/
theorem cut_apply (k T : Fin 2048) :
    val_main_v18 (F := Ideal) (ix2 k T) = ((cR ^ ((k.val * 2048 + T.val) % 2049) : ℝ) : EReal) := by
  rw [val_main_v18_apply, val_main_v17_apply, val_main_v16_apply, val_main_v15_apply, val_main_v14_apply]
  refine Eq.trans (congrArg _ ?_) (powers_apply ⟨(k.val * 2048 + T.val) % 2049, Nat.mod_lt _ (by omega)⟩)
  refine funext fun a => Fin.ext ?_
  match a with
  | ⟨0, _⟩ => show 0 * 2049 + (k.val * 2048 + T.val) % 2049 = _; rw [Nat.zero_mul, Nat.zero_add]

/-- The triangular matrix of powers. -/
theorem triangle_apply (k T : Fin 2048) :
    val_main_v19 (F := Ideal) (ix2 k T) = if k.val ≤ T.val then ((cR ^ (T.val - k.val) : ℝ) : EReal) else 0 := by
  rw [val_main_v19_apply, cut_apply, val_main_call0_v4_apply, val_main_call0_v2_apply, val_main_call0_v5_apply, val_main_call0_v1_apply,
    val_main_call0_v0_apply, val_main_call0_v3_apply, cmpi_sge_eq]
  rw [val_main_call0_c_apply]
  dsimp only [ix2]
  rw [word_toInt T.val T.isLt, word_pred k.val k.isLt]
  by_cases h : k.val ≤ T.val
  · rw [if_pos h, select_of_eq_zero (by rw [decide_eq_false (by omega)]; rfl)]
    rw [show k.val * 2048 + T.val = (T.val - k.val) + 2049 * k.val by omega, Nat.add_mul_mod_self_left, Nat.mod_eq_of_lt (by omega)]
  · rw [if_neg h, select_of_eq_one (by rw [decide_eq_true (by omega)]; rfl)]
    exact Ideal.ofBits_zero_f32

variable (x0 : (⟨S16x1x128x2048, .f32⟩ : BufTy).Contents (Elt Ideal)) (x1 x2 x3 : (⟨S128, .f32⟩ : BufTy).Contents (Elt Ideal))

/-- The smoothed value at batch row `b`, channel `n` and step `T`. -/
theorem smoother_apply (b : Fin 16) (n : Fin 128) (T : Fin 2048) (xs : ℕ → EReal) (hxs : ∀ k : Fin 2048, x0 (ix4 b 0 n k) = xs k.val)
    (hx : ∀ k, 0 ≤ xs k) : val_main_v35 (F := Ideal) x0 (ix4 b 0 n T) = smooth xs (T.val + 1) := by
  rw [val_main_v35_apply, val_main_v23_apply, val_main_v22_apply, val_main_v21_apply, coef_apply, val_main_v20_apply, val_main_v34_apply,
    Fin.sum_univ_one, val_main_v30_apply, val_main_v29_apply, val_main_v28_apply, keep_apply', val_main_v27_apply, val_main_v26_apply,
    val_main_v25_apply, val_main_v33_apply, val_main_v32_apply, val_main_v31_apply]
  rw [← Cert.Pcen.smooth_whole xs hx 2048 T.val T.isLt, mul_comm _ (sR : EReal)]
  have e0 : idx_main_v25 (idx_main_v26 (idx_main_v27 (lidx_main_v34 (ix4 b 0 n T) 0))) = ix4 b 0 n 0 := by
    refine funext fun a => Fin.ext ?_
    match a with
    | ⟨0, _⟩ => show ((b.val * 1 + 0) * 128 + n.val) / 128 = b.val; omega
    | ⟨1, _⟩ => rfl
    | ⟨2, _⟩ => show ((b.val * 1 + 0) * 128 + n.val) / 1 % 128 = n.val; omega
    | ⟨3, _⟩ => rfl
  have e1 : idx_main_v31 (idx_main_v32 (idx_main_v33 (ridx_main_v34 (ix4 b 0 n T) 0))) = ix2 0 T := by
    refine funext fun a => Fin.ext ?_
    match a with
    | ⟨0, _⟩ => rfl
    | ⟨1, _⟩ => show T.val % 2048 = T.val; omega
  rw [e0, e1, hxs, triangle_apply, if_pos (show (0 : Fin 2048).val ≤ T.val from Nat.zero_le _)]
  show (sR : EReal) * _ + _ = _
  refine congrArg₂ _ (congrArg _ (Finset.sum_congr rfl fun k _ => ?_)) rfl
  have e2 : lidx_main_v20 (ix4 b 0 n T) k = ix4 b 0 n k := by
    refine funext fun a => Fin.ext ?_
    match a with
    | ⟨0, _⟩ | ⟨1, _⟩ | ⟨2, _⟩ | ⟨3, _⟩ => rfl
  have e3 : ridx_main_v20 (ix4 b 0 n T) k = ix2 k T := by
    refine funext fun a => Fin.ext ?_
    match a with
    | ⟨0, _⟩ | ⟨1, _⟩ => rfl
  rw [e2, e3, hxs, triangle_apply]

/-- **The reference's result** at batch row `b`, step `T` and channel `n`. -/
theorem result_apply (b : Fin 16) (n : Fin 128) (T : Fin 2048) (xs : ℕ → EReal) (hxs : ∀ k : Fin 2048, x0 (ix4 b 0 n k) = xs k.val)
    (hx : ∀ k, 0 ≤ xs k) :
    val_main_v59 (F := Ideal) x0 x1 x2 x3 (ix4 b 0 T n) = pcen (smooth xs (T.val + 1)) (xs T.val) (x1 (ix1 n)) (x2 (ix1 n)) (x3 (ix1 n)) := by
  have e : idx_main_v59 (ix4 b 0 T n) = ix4 b 0 n T := by
    refine funext fun a => Fin.ext ?_
    match a with
    | ⟨0, _⟩ | ⟨1, _⟩ | ⟨2, _⟩ | ⟨3, _⟩ => rfl
  rw [val_main_v59_apply, e, val_main_v58_apply, val_main_v54_apply, val_main_v57_apply, val_main_v56_apply, val_main_v55_apply, val_main_v51_apply,
    val_main_v48_apply, val_main_v47_apply, val_main_v46_apply, val_main_v43_apply, val_main_v40_apply, val_main_v39_apply,
    smoother_apply x0 b n T xs hxs hx, hxs, val_main_v38_apply, val_main_cst_5_apply, val_main_v42_apply, val_main_v41_apply, val_main_v37_apply,
    val_main_cst_4_apply, val_main_v45_apply, val_main_v44_apply, val_main_v36_apply, val_main_v4_apply, val_main_v3_apply, val_main_v50_apply,
    val_main_v49_apply, val_main_v6_apply, val_main_v5_apply, val_main_v53_apply, val_main_v52_apply, val_main_v8_apply, val_main_v7_apply]
  have c1 : ∀ j : S128.Idx, (j 0).val = n.val → j = ix1 n := fun j hj => funext fun a => Fin.ext (by match a with | ⟨0, _⟩ => exact hj)
  rw [c1 (idx_main_v4 (idx_main_v44 (idx_main_v45 (ix4 b 0 n T)))) rfl, c1 (idx_main_v6 (idx_main_v49 (idx_main_v50 (ix4 b 0 n T)))) rfl,
    c1 (idx_main_v8 (idx_main_v52 (idx_main_v53 (ix4 b 0 n T)))) rfl]
  rfl

end Cert.ReferenceIdeal.Hand

end
-- ==== Proof.Equation.lean ====
/- The two results are equal where the input is not negative. -/
module

public import proofs.«01_k».proof.Proof.KernelValue
public import proofs.«01_k».proof.Proof.RefValue
public import proofs.«01_k».proof.Proof.Gen.Pre_nonneg

@[expose] public section

set_option maxRecDepth 16384

noncomputable section

namespace Cert.Equation

open Idealize.ShloMosaic Idealize.ShloMosaic.ValueIdx Idealize.ShloMosaic.TcCoe Idealize.SL.Sem
open Cert.KernelIdeal.Hand (finish steps)
open Cert.ReferenceIdeal.Hand (pcen)

/-- The kernel's compression, by exponentials to base two and one logarithm, is the reference's, by powers. -/
theorem finish_eq (s x a d r : EReal) (hs : 0 ≤ s) (hx : 0 ≤ x) : finish s x a d r = pcen s x a d r := by
  obtain ⟨e, he, hw⟩ := Cert.Pcen.word_eps
  unfold finish pcen
  rw [hw, Cert.Pcen.log_split e he s hs, mul_right_comm (0 - Ideal.exp a), Cert.Pcen.exp2_scaled, zero_sub, mul_right_comm (Ideal.exp r),
    Cert.Pcen.exp2_scaled,
    Cert.Pcen.pow_eq _ _ (add_nonneg (mul_nonneg hx (Cert.Pcen.exp_nonneg _)) (Cert.Pcen.exp_nonneg d)) (Cert.Pcen.exp_nonneg r),
    Cert.Pcen.pow_eq _ _ (Cert.Pcen.exp_nonneg d) (Cert.Pcen.exp_nonneg r), Cert.Pcen.log_exp]

/-- What the precondition says of an entry: it is not negative. -/
theorem nonneg_of_pre (x : Vec Ideal Cert.KernelIdeal.S16x1x128x2048 .f32) (a d r : Vec Ideal Cert.KernelIdeal.S128 .f32)
    (h : Cert.Pre_nonneg.fn (F := Ideal) x a d r = fun _ => 1#1) (i : Cert.KernelIdeal.S16x1x128x2048.Idx) : 0 ≤ x i := by
  have hi := congrFun h i
  rw [Cert.Pre_nonneg.fn, ValueIdx.cmpf_apply, broadcastInDim_scalar_apply, ValueIdx.constant_apply, Ideal.ofBits_zero_f32] at hi
  have hd : BitVec.ofBool (decide (0 ≤ x i)) = 1#1 := hi
  by_contra hn
  rw [decide_eq_false hn] at hd
  exact absurd hd (by decide)

/-- The steps of one row are not negative where the array is not: each is an entry, or zero past the end. -/
theorem steps_nonneg (x : Vec Ideal Cert.KernelIdeal.S16x1x128x2048 .f32) (h : ∀ i, 0 ≤ x i) (b : Fin 16) (n : Fin 128) (k : ℕ) :
    0 ≤ steps x b n k := by
  unfold steps
  split
  · exact h _
  · exact le_refl _

/-- The kernel's result array is the reference's, at every index, where the input is not negative. -/
theorem result_eq (m : (ℓ : Loc Cert.KernelIdeal.nD Cert.KernelIdeal.τ Cert.KernelIdeal.sig) → Buf (Elt Ideal) ℓ)
    (c : Dev Cert.KernelIdeal.nD)
    (hx : ∀ b n k, 0 ≤ steps (m (c.tc.loc Cert.KernelIdeal.main_arg0)) b n k) :
    (Cert.KernelIdeal.Value.G6 m c : Vec Ideal Cert.KernelIdeal.S16x1x2048x128 .f32)
      = Cert.ReferenceIdeal.Read.val_main_v59 (F := Ideal) (m (c.tc.loc Cert.KernelIdeal.main_arg0))
          (m (c.tc.loc Cert.KernelIdeal.main_arg1)) (m (c.tc.loc Cert.KernelIdeal.main_arg2))
          (m (c.tc.loc Cert.KernelIdeal.main_arg3)) := by
  funext i
  obtain ⟨b, T, n, rfl⟩ : ∃ (b : Fin 16) (T : Fin 2048) (n : Fin 128), i = ix4 b (0 : Fin 1) T n :=
    ⟨i 0, i 2, i 3, (eq_ix4 i).trans (congrArg (fun z : Fin 1 => ix4 (i 0) z (i 2) (i 3)) (Subsingleton.elim _ _))⟩
  have hs := hx b n
  have hk := Cert.KernelIdeal.Hand.result_apply m c b T n hs
  have hr := Cert.ReferenceIdeal.Hand.result_apply (m (c.tc.loc Cert.KernelIdeal.main_arg0))
    (m (c.tc.loc Cert.KernelIdeal.main_arg1)) (m (c.tc.loc Cert.KernelIdeal.main_arg2))
    (m (c.tc.loc Cert.KernelIdeal.main_arg3)) b n T (steps (m (c.tc.loc Cert.KernelIdeal.main_arg0)) b n)
    (fun k => by rw [steps, dif_pos k.isLt]) hs
  exact hk.trans ((finish_eq _ _ _ _ _ (Cert.Pcen.smooth_nonneg _ hs _) (hs _)).trans hr.symm)

end Cert.Equation

end
-- ==== Proof.lean ====
/- The proof of the certificate's claim: the three programs' frames, the named constant, and the equality of the
   kernel's result with the reference's. The work is in the modules imported here; this one puts it together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_nonneg
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel, in machine arithmetic, runs to its end, keeps its four arguments and leaves every counter at zero. -/
theorem frame_kernel : Cert.quiescent_Kernel := fun m ρ _ => Cert.Kernel.Gen.frame m ρ

/-- The same of the kernel over the extended reals. -/
theorem frame_kernelIdeal : Cert.quiescent_KernelIdeal := fun m ρ _ => Cert.KernelIdeal.Gen.frame m ρ

/-- The same of the kernel over the extended reals from a launch whose input is not negative. -/
theorem frame_kernelIdeal_nonneg : Cert.quiescent_KernelIdeal_pre_nonneg := fun m ρ _ => Cert.KernelIdeal.Gen.frame m ρ

/-- The reference is a straight line of array operations that declares no counter: it runs to its end and keeps its
    four arguments. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference from a launch whose input is not negative. -/
theorem frame_referenceIdeal_nonneg : Cert.quiescent_ReferenceIdeal_pre_nonneg := fun m ρ _ =>
  frame_referenceIdeal m ρ trivial

/-- The constant named in the idealised kernel stands where the kernel has the word nearest to it. -/
theorem preserves : Cert.preserves_Kernel_KernelIdeal := IdealRules.named_const.statement Cert.KernelIdeal.κ "inv_ln2" .f32 _ _ rfl

/-- From a launch whose input is not negative, the kernel and the reference end with the same result array over the
    extended reals, and both keep their arguments. -/
theorem algebraic : Cert.algebraic_KernelIdeal_ReferenceIdeal_pre_nonneg := by
  intro m ρ m' ρ' hpre hagree
  refine ⟨fun c => Cert.KernelIdeal.Value.G6 m c, Cert.KernelIdeal.Value.run m ρ,
    (θ_run Cert.ReferenceIdeal.defs _ _).mono (fun _ h c => ⟨(h c).1.trans ?_, (h c).2⟩)
      (Cert.ReferenceIdeal.Value.run (F := Ideal) m' ρ')⟩
  obtain ⟨h0, h1, h2, h3⟩ := hagree c
  rw [Cert.ReferenceIdeal.Read.val_main_v59_eq, h0, h1, h2, h3]
  exact (Cert.Equation.result_eq m c (Cert.Equation.steps_nonneg _ (Cert.Equation.nonneg_of_pre _ _ _ _ (hpre c)))).symm

/-- The certificate's claim. -/
theorem claim : Cert.Claim :=
  ⟨Cert.Kernel.Gen.facts, Cert.KernelIdeal.Gen.facts, Cert.ReferenceIdeal.Gen.facts, Cert.Pre_nonneg.Gen.facts,
    frame_kernel, frame_kernelIdeal, frame_kernelIdeal_nonneg, frame_referenceIdeal, frame_referenceIdeal_nonneg,
    preserves, algebraic⟩

end Cert.Proof

end
